-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 8192]⟩ ⟨2, ![4096, 8192]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S1 : Shape := ⟨1, ![1]⟩
abbrev S8x512x512 : Shape := ⟨3, ![8, 512, 512]⟩
abbrev S4x512x4096 : Shape := ⟨3, ![4, 512, 4096]⟩
abbrev S8 : Shape := ⟨1, ![8]⟩
abbrev S2 : Shape := ⟨1, ![2]⟩
abbrev S4 : Shape := ⟨1, ![4]⟩
abbrev S_ : Shape := ⟨0, ![]⟩
abbrev S1x512x4096 : Shape := ⟨3, ![1, 512, 4096]⟩
abbrev S512x4096 : Shape := ⟨2, ![512, 4096]⟩
abbrev S1x512x512 : Shape := ⟨3, ![1, 512, 512]⟩
abbrev S512x512 : Shape := ⟨2, ![512, 512]⟩
abbrev S512x1024 : Shape := ⟨2, ![512, 1024]⟩
abbrev S1024x4096 : Shape := ⟨2, ![1024, 4096]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .i8⟩
  | .hbm, ⟨1, _⟩ => ⟨S512x8192, .i8⟩
  | .hbm, ⟨2, _⟩ => ⟨S1, .f32⟩
  | .hbm, ⟨3, _⟩ => ⟨S1, .f32⟩
  | .hbm, ⟨4, _⟩ => ⟨S512x8192, .f32⟩
  | .local _ .vmem, ⟨0, _⟩ => ⟨S4096x512, .i8⟩
  | .local _ .vmem, ⟨1, _⟩ => ⟨S512x8192, .i8⟩
  | .local _ .vmem, ⟨2, _⟩ => ⟨S512x8192, .f32⟩
  | .local _ .vmem, ⟨3, _⟩ => ⟨S8x512x512, .i8⟩
  | .local _ .vmem, ⟨4, _⟩ => ⟨S4x512x4096, .i8⟩
  | .local _ .vmem, ⟨5, _⟩ => ⟨S4x512x4096, .i8⟩
  | .local _ .smem, ⟨0, _⟩ => ⟨S1, .f32⟩
  | .local _ .smem, ⟨1, _⟩ => ⟨S1, .f32⟩
  | _, _ => ⟨S4096x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 9 29 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 8

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_5 : BitVec 32 := 1#32
  let v9 : BitVec 32 := Scalar.addi v2 c1_i32_5
  let c8_i32_6 : BitVec 32 := 8#32
  let v10 : BitVec 32 := Scalar.remsi v9 c8_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v13 : BitVec 32 := Scalar.addi v2 c2_i32
  let c8_i32_9 : BitVec 32 := 8#32
  let v14 : BitVec 32 := Scalar.remsi v13 c8_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v17 : BitVec 32 := Scalar.addi v2 c3_i32
  let c8_i32_13 : BitVec 32 := 8#32
  let v18 : BitVec 32 := Scalar.remsi v17 c8_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v21 : BitVec 32 := Scalar.addi v2 c4_i32
  let c8_i32_17 : BitVec 32 := 8#32
  let v22 : BitVec 32 := Scalar.remsi v21 c8_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v25 : BitVec 32 := Scalar.addi v2 c5_i32
  let c8_i32_21 : BitVec 32 := 8#32
  let v26 : BitVec 32 := Scalar.remsi v25 c8_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v29 : BitVec 32 := Scalar.addi v2 c6_i32
  let c8_i32_25 : BitVec 32 := 8#32
  let v30 : BitVec 32 := Scalar.remsi v29 c8_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v33 : BitVec 32 := Scalar.addi v2 c7_i32
  let c8_i32_29 : BitVec 32 := 8#32
  let v34 : BitVec 32 := Scalar.remsi v33 c8_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_37 : BitVec 32 := 1#32
  let v37 : BitVec 32 := Scalar.muli v7 c1_i32_37
  let v38 : BitVec 32 := Scalar.addi c0_i32_38 v37
  v38.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_46 : BitVec 32 := 1#32
  let v46 : BitVec 32 := Scalar.muli v5 c1_i32_46
  let v47 : BitVec 32 := Scalar.addi c0_i32_47 v46
  v47.toNat
def k0_off1 (d0 : Dev nD) (c1_i32_51 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.addi v2 c1_i32_51
  let c8_i32_52 : BitVec 32 := 8#32
  let v56 : BitVec 32 := Scalar.remsi v55 c8_i32_52
  ![v56.toNat]
def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_55 : BitVec 32 := 0#32
  let c0_i32_56 : BitVec 32 := 0#32
  ![v2.toNat, 0, 0]
def k0_off4 (d0 : Dev nD) (c1_i32_51 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v55 : BitVec 32 := Scalar.addi v2 c1_i32_51
  let c8_i32_52 : BitVec 32 := 8#32
  let v56 : BitVec 32 := Scalar.remsi v55 c8_i32_52
  let c512_i32 : BitVec 32 := 512#32
  let v57 : BitVec 32 := Scalar.muli v56 c512_i32
  let c0_i32_57 : BitVec 32 := 0#32
  ![v57.toNat, 0]
def k0_dev10 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v55 : BitVec 32 := Scalar.addi v2 c1_i32_51
  let c8_i32_52 : BitVec 32 := 8#32
  let v56 : BitVec 32 := Scalar.remsi v55 c8_i32_52
  let c1_i32_53 : BitVec 32 := 1#32
  let v58 : BitVec 32 := Scalar.muli v56 c1_i32_53
  let v59 : BitVec 32 := Scalar.addi c0_i32_54 v58
  v59.toNat
def k0_dev11 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_58 : BitVec 32 := 2#32
  let v67 : BitVec 32 := Scalar.addi v2 c2_i32_58
  let c8_i32_59 : BitVec 32 := 8#32
  let v68 : BitVec 32 := Scalar.remsi v67 c8_i32_59
  let c1_i32_61 : BitVec 32 := 1#32
  let v70 : BitVec 32 := Scalar.muli v68 c1_i32_61
  let v71 : BitVec 32 := Scalar.addi c0_i32_62 v70
  v71.toNat
def k0_dev12 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_66 : BitVec 32 := 3#32
  let v79 : BitVec 32 := Scalar.addi v2 c3_i32_66
  let c8_i32_67 : BitVec 32 := 8#32
  let v80 : BitVec 32 := Scalar.remsi v79 c8_i32_67
  let c1_i32_69 : BitVec 32 := 1#32
  let v82 : BitVec 32 := Scalar.muli v80 c1_i32_69
  let v83 : BitVec 32 := Scalar.addi c0_i32_70 v82
  v83.toNat
def k0_dev13 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_74 : BitVec 32 := 4#32
  let v91 : BitVec 32 := Scalar.addi v2 c4_i32_74
  let c8_i32_75 : BitVec 32 := 8#32
  let v92 : BitVec 32 := Scalar.remsi v91 c8_i32_75
  let c1_i32_77 : BitVec 32 := 1#32
  let v94 : BitVec 32 := Scalar.muli v92 c1_i32_77
  let v95 : BitVec 32 := Scalar.addi c0_i32_78 v94
  v95.toNat
def k0_dev14 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_82 : BitVec 32 := 5#32
  let v103 : BitVec 32 := Scalar.addi v2 c5_i32_82
  let c8_i32_83 : BitVec 32 := 8#32
  let v104 : BitVec 32 := Scalar.remsi v103 c8_i32_83
  let c1_i32_85 : BitVec 32 := 1#32
  let v106 : BitVec 32 := Scalar.muli v104 c1_i32_85
  let v107 : BitVec 32 := Scalar.addi c0_i32_86 v106
  v107.toNat
def k0_dev15 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_90 : BitVec 32 := 6#32
  let v115 : BitVec 32 := Scalar.addi v2 c6_i32_90
  let c8_i32_91 : BitVec 32 := 8#32
  let v116 : BitVec 32 := Scalar.remsi v115 c8_i32_91
  let c1_i32_93 : BitVec 32 := 1#32
  let v118 : BitVec 32 := Scalar.muli v116 c1_i32_93
  let v119 : BitVec 32 := Scalar.addi c0_i32_94 v118
  v119.toNat
def k0_dev16 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_98 : BitVec 32 := 7#32
  let v127 : BitVec 32 := Scalar.addi v2 c7_i32_98
  let c8_i32_99 : BitVec 32 := 8#32
  let v128 : BitVec 32 := Scalar.remsi v127 c8_i32_99
  let c1_i32_101 : BitVec 32 := 1#32
  let v130 : BitVec 32 := Scalar.muli v128 c1_i32_101
  let v131 : BitVec 32 := Scalar.addi c0_i32_102 v130
  v131.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32_106 : BitVec 32 := 512#32
  let v139 : BitVec 32 := Scalar.muli v2 c512_i32_106
  let v140 : Index := Scalar.indexCast v139
  let c0 : Index := 0#32
  ![v140.toNat, 0]
def k0_dev17 (d0 : Dev nD) : Nat :=
  let c0_i32_150 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_149 : BitVec 32 := 1#32
  let v173 : BitVec 32 := Scalar.muli v7 c1_i32_149
  let v174 : BitVec 32 := Scalar.addi c0_i32_150 v173
  v174.toNat
def k0_dev18 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_159 : BitVec 32 := 1#32
  let v183 : BitVec 32 := Scalar.muli v5 c1_i32_159
  let v184 : BitVec 32 := Scalar.addi c0_i32_160 v183
  v184.toNat
def k0_dev19 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_207 : BitVec 32 := 1#32
  let v221 : BitVec 32 := Scalar.muli v7 c1_i32_207
  let v222 : BitVec 32 := Scalar.addi c0_i32_208 v221
  v222.toNat
def k0_dev20 (d0 : Dev nD) : Nat :=
  let c0_i32_218 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_217 : BitVec 32 := 1#32
  let v231 : BitVec 32 := Scalar.muli v5 c1_i32_217
  let v232 : BitVec 32 := Scalar.addi c0_i32_218 v231
  v232.toNat
def k0_off6 (d0 : Dev nD) (c2_i32_224 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_223 : BitVec 32 := 8#32
  let v241 : BitVec 32 := Scalar.addi v2 c8_i32_223
  let v242 : BitVec 32 := Scalar.subi v241 c2_i32_224
  let c1_i32_225 : BitVec 32 := 1#32
  let v243 : BitVec 32 := Scalar.addi v242 c1_i32_225
  let c8_i32_226 : BitVec 32 := 8#32
  let v244 : BitVec 32 := Scalar.remsi v243 c8_i32_226
  ![v244.toNat]
def k0_off7 (d0 : Dev nD) (c2_i32_224 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_223 : BitVec 32 := 8#32
  let v241 : BitVec 32 := Scalar.addi v2 c8_i32_223
  let v242 : BitVec 32 := Scalar.subi v241 c2_i32_224
  let c1_i32_225 : BitVec 32 := 1#32
  let v243 : BitVec 32 := Scalar.addi v242 c1_i32_225
  let c8_i32_226 : BitVec 32 := 8#32
  let v244 : BitVec 32 := Scalar.remsi v243 c8_i32_226
  let c0_i32_237 : BitVec 32 := 0#32
  let c0_i32_238 : BitVec 32 := 0#32
  ![v244.toNat, 0, 0]
def k0_off8 (d0 : Dev nD) (c8_i32_227 : BitVec 32) (c2_i32_228 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : BitVec 32 := Scalar.addi v2 c8_i32_227
  let v246 : BitVec 32 := Scalar.subi v245 c2_i32_228
  let c8_i32_229 : BitVec 32 := 8#32
  let v247 : BitVec 32 := Scalar.remsi v246 c8_i32_229
  ![v247.toNat]
def k0_off8_at (r : Fin 3) : BitVec 32 × BitVec 32 :=
  if r.val < 1 then
    (8#32, 2#32)
  else
    if r.val < 2 then
      (2#32, 1#32)
    else
      (4#32, 1#32)
def k0_off9 (d0 : Dev nD) (c8_i32_227 : BitVec 32) (c2_i32_228 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : BitVec 32 := Scalar.addi v2 c8_i32_227
  let v246 : BitVec 32 := Scalar.subi v245 c2_i32_228
  let c8_i32_229 : BitVec 32 := 8#32
  let v247 : BitVec 32 := Scalar.remsi v246 c8_i32_229
  let c0_i32_243 : BitVec 32 := 0#32
  let c0_i32_244 : BitVec 32 := 0#32
  ![v247.toNat, 0, 0]
def k0_off9_at (r : Fin 3) : BitVec 32 × BitVec 32 :=
  if r.val < 1 then
    (8#32, 2#32)
  else
    if r.val < 2 then
      (2#32, 1#32)
    else
      (4#32, 1#32)
def k0_off10 (d0 : Dev nD) (c2_i32_233 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : BitVec 32 := Scalar.addi v2 c2_i32_233
  let c8_i32_234 : BitVec 32 := 8#32
  let v252 : BitVec 32 := Scalar.remsi v251 c8_i32_234
  let c0_i32_255 : BitVec 32 := 0#32
  let c0_i32_256 : BitVec 32 := 0#32
  ![v252.toNat, 0, 0]
def k0_off11 (d0 : Dev nD) (c2_i32_224 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_223 : BitVec 32 := 8#32
  let v241 : BitVec 32 := Scalar.addi v2 c8_i32_223
  let v242 : BitVec 32 := Scalar.subi v241 c2_i32_224
  let c1_i32_225 : BitVec 32 := 1#32
  let v243 : BitVec 32 := Scalar.addi v242 c1_i32_225
  let c8_i32_226 : BitVec 32 := 8#32
  let v244 : BitVec 32 := Scalar.remsi v243 c8_i32_226
  let v285 : Index := Scalar.indexCast v244
  let c0_259 : Index := 0#32
  let c0_260 : Index := 0#32
  ![v285.toNat, 0, 0]
def k0_off12 (d0 : Dev nD) (c8_i32_227 : BitVec 32) (c2_i32_228 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v245 : BitVec 32 := Scalar.addi v2 c8_i32_227
  let v246 : BitVec 32 := Scalar.subi v245 c2_i32_228
  let c8_i32_229 : BitVec 32 := 8#32
  let v247 : BitVec 32 := Scalar.remsi v246 c8_i32_229
  let v288 : Index := Scalar.indexCast v247
  let c0_261 : Index := 0#32
  let c0_262 : Index := 0#32
  ![v288.toNat, 0, 0]
def k0_off12_at (r : Fin 7) : BitVec 32 × BitVec 32 :=
  if r.val < 3 then
    if r.val < 1 then
      (8#32, 2#32)
    else
      if r.val < 2 then
        (2#32, 1#32)
      else
        (8#32, 4#32)
  else
    if r.val < 5 then
      if r.val < 4 then
        (4#32, 1#32)
      else
        (8#32, 6#32)
    else
      if r.val < 6 then
        (6#32, 1#32)
      else
        (8#32, 1#32)
def k0_off13 (d0 : Dev nD) (c2_i32_233 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v251 : BitVec 32 := Scalar.addi v2 c2_i32_233
  let c8_i32_234 : BitVec 32 := 8#32
  let v252 : BitVec 32 := Scalar.remsi v251 c8_i32_234
  let v307 : Index := Scalar.indexCast v252
  let c0_275 : Index := 0#32
  let c0_276 : Index := 0#32
  ![v307.toNat, 0, 0]
def k0_off13_at (r : Fin 4) : BitVec 32 :=
  if r.val < 2 then
    if r.val < 1 then
      2#32
    else
      4#32
  else
    if r.val < 3 then
      6#32
    else
      1#32
def k0_dev21 (d0 : Dev nD) : Nat :=
  let c0_i32_308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_307 : BitVec 32 := 1#32
  let v337 : BitVec 32 := Scalar.muli v5 c1_i32_307
  let v338 : BitVec 32 := Scalar.addi c0_i32_308 v337
  v338.toNat
def k0_dev22 (d0 : Dev nD) : Nat :=
  let c0_i32_312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_311 : BitVec 32 := 1#32
  let v341 : BitVec 32 := Scalar.muli v7 c1_i32_311
  let v342 : BitVec 32 := Scalar.addi c0_i32_312 v341
  v342.toNat
def k0_dev23 (d0 : Dev nD) : Nat :=
  let c0_i32_316 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_315 : BitVec 32 := 1#32
  let v345 : BitVec 32 := Scalar.muli v5 c1_i32_315
  let v346 : BitVec 32 := Scalar.addi c0_i32_316 v345
  v346.toNat
def k0_dev24 (d0 : Dev nD) : Nat :=
  let c0_i32_320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_319 : BitVec 32 := 1#32
  let v349 : BitVec 32 := Scalar.muli v7 c1_i32_319
  let v350 : BitVec 32 := Scalar.addi c0_i32_320 v349
  v350.toNat
def k0_dev25 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_345 : BitVec 32 := 1#32
  let v367 : BitVec 32 := Scalar.muli v7 c1_i32_345
  let v368 : BitVec 32 := Scalar.addi c0_i32_346 v367
  v368.toNat
def k0_dev26 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_355 : BitVec 32 := 1#32
  let v377 : BitVec 32 := Scalar.muli v5 c1_i32_355
  let v378 : BitVec 32 := Scalar.addi c0_i32_356 v377
  v378.toNat
def k0_dev27 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_409 : BitVec 32 := 1#32
  let v419 : BitVec 32 := Scalar.muli v7 c1_i32_409
  let v420 : BitVec 32 := Scalar.addi c0_i32_410 v419
  v420.toNat
def k0_dev28 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_419 : BitVec 32 := 1#32
  let v429 : BitVec 32 := Scalar.muli v5 c1_i32_419
  let v430 : BitVec 32 := Scalar.addi c0_i32_420 v429
  v430.toNat
def k0_dev29 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_503 : BitVec 32 := 1#32
  let v527 : BitVec 32 := Scalar.muli v5 c1_i32_503
  let v528 : BitVec 32 := Scalar.addi c0_i32_504 v527
  v528.toNat
def k0_dev30 (d0 : Dev nD) : Nat :=
  let c0_i32_508 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_507 : BitVec 32 := 1#32
  let v531 : BitVec 32 := Scalar.muli v7 c1_i32_507
  let v532 : BitVec 32 := Scalar.addi c0_i32_508 v531
  v532.toNat
def k0_dev31 (d0 : Dev nD) : Nat :=
  let c0_i32_540 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_539 : BitVec 32 := 1#32
  let v553 : BitVec 32 := Scalar.muli v7 c1_i32_539
  let v554 : BitVec 32 := Scalar.addi c0_i32_540 v553
  v554.toNat
def k0_dev32 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_549 : BitVec 32 := 1#32
  let v563 : BitVec 32 := Scalar.muli v5 c1_i32_549
  let v564 : BitVec 32 := Scalar.addi c0_i32_550 v563
  v564.toNat
def k0_dev33 (d0 : Dev nD) : Nat :=
  let c0_i32_604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_603 : BitVec 32 := 1#32
  let v605 : BitVec 32 := Scalar.muli v7 c1_i32_603
  let v606 : BitVec 32 := Scalar.addi c0_i32_604 v605
  v606.toNat
def k0_dev34 (d0 : Dev nD) : Nat :=
  let c0_i32_614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_613 : BitVec 32 := 1#32
  let v615 : BitVec 32 := Scalar.muli v5 c1_i32_613
  let v616 : BitVec 32 := Scalar.addi c0_i32_614 v615
  v616.toNat
abbrev stage0_0 : Fin 1 → Memref sig .tc .vmem S4096x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Same.lean ====
/-
# The kernel and its idealization are one program

No operation is rewritten between the two, so their body tables and mains are equal at any float values.
-/
module

public import proofs.«01_k».proof.Proof.Gen.Kernel
public import proofs.«01_k».proof.Proof.Gen.KernelIdeal

@[expose] public section

noncomputable section

namespace Cert.RingProof

open Idealize.ShloMosaic

variable {F : FTy → Type} [FloatOps F]

/-- The two tables of kernel bodies are equal, -/
theorem same_bodies : Cert.Kernel.defs₀ (F := F) = Cert.KernelIdeal.defs₀ (F := F) := by
  refine congrArg (Defs.onTc (nD := Cert.KernelIdeal.nD) (τ := Cert.KernelIdeal.τ) (sig := Cert.KernelIdeal.sig) (Λ := Cert.KernelIdeal.Λ₀)) ?_
  funext l a
  match l, a with
  | ⟨0, _⟩, ⟨t, s⟩ => rfl
  | ⟨_ + 1, h⟩, _ => exact absurd h (by omega)
/-- so the two tables with their pipelines are, -/
theorem same_defs : Cert.Kernel.defs (F := F) = Cert.KernelIdeal.defs (F := F) :=
  congrArg (Pipeline.defs (Cert.KernelIdeal.pcfgs (F := F))) same_bodies
/-- and so are the mains. -/
theorem same_main : Cert.Kernel.main (F := F) = Cert.KernelIdeal.main (F := F) := rfl

end Cert.RingProof
-- ==== Proof.Proto.lean ====
/-
# The protocol between the eight devices

A device's cells, the memory each transfer reads and writes, and the schedule: what a unit of each semaphore
hands to the device that waits for it, with the contents of the memory handed over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Pipeline.TalkSched
public import Idealize.ShloMosaic.Lib.VecWindow
public import Idealize.ShloMosaic.Lib.Tactic

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

/-! ## Places on the ring -/

set_option backward.proofsInPublic true in
/-- The device k places after c. -/
def sh (k : ℕ) (c : Dev nD) : Dev nD := ⟨(c.val + k) % 8, Nat.mod_lt _ (by decide)⟩

/-- The neighbour that direction d sends to: the next device forward (true), the previous one backward (false). -/
def nbr (d : Bool) (c : Dev nD) : Dev nD := match d with | true => sh 1 c | false => sh 7 c

/-- The device whose half of the weights reaches c at hop h of direction d. -/
def org (d : Bool) (c : Dev nD) (h : ℕ) : Dev nD := match d with | true => sh (7 - h) c | false => sh (1 + h) c

theorem nbr_nbr (d : Bool) (c : Dev nD) : nbr d (nbr (!d) c) = c := by revert c d; decide +kernel
theorem nbr_nbr' (d : Bool) (c : Dev nD) : nbr (!d) (nbr d c) = c := by revert c d; decide +kernel

set_option backward.proofsInPublic true in
/-- The slot of hop h. -/
def sl (h : ℕ) : Fin 4 := ⟨h % 4, Nat.mod_lt _ (by decide)⟩

set_option backward.proofsInPublic true in
/-- The semaphore of hop h. -/
def par (h : ℕ) : Fin 2 := ⟨h % 2, Nat.mod_lt _ (by decide)⟩

/-! ## The cells of a device -/

/-- A device's cells: the barrier; per device t the send cell of the block to t and the receive cell of the block
    from t; per direction and parity the send and receive cells of the ring; per direction and slot the credit. -/
inductive CK
  | bar
  | xs (t : Dev nD)
  | xr (t : Dev nD)
  | hs (d : Bool) (p : Fin 2)
  | hr (d : Bool) (p : Fin 2)
  | cr (d : Bool) (s : Fin 4)
  deriving DecidableEq

/-- All cells of a device. -/
def allK : List CK :=
  [.bar] ++ (List.finRange 8).map .xs ++ (List.finRange 8).map .xr
    ++ (List.finRange 2).map (.hs true) ++ (List.finRange 2).map (.hs false)
    ++ (List.finRange 2).map (.hr true) ++ (List.finRange 2).map (.hr false)
    ++ (List.finRange 4).map (.cr true) ++ (List.finRange 4).map (.cr false)

theorem allK_nodup : allK.Nodup := by decide +kernel
theorem mem_allK (k : CK) : k ∈ allK := by
  cases k with
  | bar => decide +kernel
  | xs t => revert t; decide +kernel
  | xr t => revert t; decide +kernel
  | hs d p => revert d p; decide +kernel
  | hr d p => revert d p; decide +kernel
  | cr d p => revert d p; decide +kernel

instance : Fintype CK := ⟨⟨allK, allK_nodup⟩, mem_allK⟩

set_option backward.proofsInPublic true in
/-- The semaphore of a cell. -/
def loc : CK → SemLoc sig
  | .bar => .reg barrier0
  | .xs t => .dma ⟨5 + t.val, by have := t.isLt; show 5 + t.val < 29; change t.val < 8 at this; omega⟩
  | .xr t => .dma ⟨13 + t.val, by have := t.isLt; show 13 + t.val < 29; change t.val < 8 at this; omega⟩
  | .hs true p => .dma ⟨21 + p.val, by have := p.isLt; show 21 + p.val < 29; omega⟩
  | .hs false p => .dma ⟨25 + p.val, by have := p.isLt; show 25 + p.val < 29; omega⟩
  | .hr true p => .dma ⟨23 + p.val, by have := p.isLt; show 23 + p.val < 29; omega⟩
  | .hr false p => .dma ⟨27 + p.val, by have := p.isLt; show 27 + p.val < 29; omega⟩
  | .cr true s => .reg ⟨0 + s.val, by have := s.isLt; show 0 + s.val < 9; omega⟩
  | .cr false s => .reg ⟨4 + s.val, by have := s.isLt; show 4 + s.val < 9; omega⟩

theorem loc_inj : Function.Injective loc := by
  have h : ∀ a b : CK, loc a = loc b → a = b := by decide +kernel
  exact fun a b => h a b

/-- A device's cell on the mesh. -/
def cell (c : Dev nD) (k : CK) : GSem nD τ sig := ((c : Thread nD τ), loc k)

theorem cell_inj {c c' : Dev nD} {k k' : CK} (h : cell c k = cell c' k') : c = c' ∧ k = k' := by
  unfold cell at h
  exact ⟨congrArg (fun g : GSem nD τ sig => g.1.1) h, loc_inj (congrArg Prod.snd h)⟩

open Classical in
/-- Which of a device's cells a semaphore is, if any. -/
def kind (sm : SemLoc sig) : Option CK := if h : ∃ k, loc k = sm then some h.choose else none

@[simp] theorem kind_loc (k : CK) : kind (loc k) = some k := by
  have h : ∃ k', loc k' = loc k := ⟨k, rfl⟩
  unfold kind
  rw [dif_pos h]
  exact congrArg some (loc_inj h.choose_spec)

/-! ## The memory -/

abbrev xM : Memref sig .tc .vmem S4096x512 .i8 := Memref.whole cc0_stg0_0
abbrev wM : Memref sig .tc .vmem S512x8192 .i8 := Memref.whole cc0_stg1_0
abbrev aM : Memref sig .tc .smem S1 .f32 := Memref.whole cc0_stg2_0
abbrev bM : Memref sig .tc .smem S1 .f32 := Memref.whole cc0_stg3_0
abbrev oM : Memref sig .tc .vmem S512x8192 .f32 := Memref.whole cc0_stg4_0
abbrev gM : Memref sig .tc .vmem S8x512x512 .i8 := Memref.whole cc0_scratch0
abbrev fM : Memref sig .tc .vmem S4x512x4096 .i8 := Memref.whole cc0_scratch1
abbrev hM : Memref sig .tc .vmem S4x512x4096 .i8 := Memref.whole cc0_scratch2

/-- The ring buffer of a direction. -/
def ringM : Bool → Memref sig .tc .vmem S4x512x4096 .i8 | true => fM | false => hM

/-- The first column of the half of the weights that direction d carries. -/
def col0 : Bool → ℕ | true => 0 | false => 4096

theorem xblk_inb (t : Dev nD) : ∀ a, (![512 * t.val, 0] : Fin 2 → ℕ) a + S512x512.size a ≤ S4096x512.size a := by
  revert t; decide +kernel
theorem gslot_inb (t : Dev nD) : ∀ a, (![t.val, 0, 0] : Fin 3 → ℕ) a + S1x512x512.size a ≤ S8x512x512.size a := by
  revert t; decide +kernel
theorem whalf_inb (d : Bool) : ∀ a, (![0, col0 d] : Fin 2 → ℕ) a + S512x4096.size a ≤ S512x8192.size a := by
  revert d; decide +kernel
theorem wslot_inb (s : Fin 4) : ∀ a, (![s.val, 0, 0] : Fin 3 → ℕ) a + S1x512x4096.size a ≤ S4x512x4096.size a := by
  revert s; decide +kernel

set_option backward.proofsInPublic true in
/-- Rows 512 t … of the staged block of x. -/
def xblk (t : Dev nD) : Memref sig .tc .vmem S512x512 .i8 :=
  xM.slice (Rect.unit (s := S4096x512) ![512 * t.val, 0] S512x512.size (xblk_inb t)) (fun _ => rfl)
set_option backward.proofsInPublic true in
/-- Slot t of the gathered blocks of x. -/
def gslot (t : Dev nD) : Memref sig .tc .vmem S512x512 .i8 :=
  (gM.slice (Rect.unit (s := S8x512x512) ![t.val, 0, 0] S1x512x512.size (gslot_inb t)) (fun _ => rfl)).squeeze S512x512 squeezes_S1x512x512_S512x512
set_option backward.proofsInPublic true in
/-- The half of the staged weights that direction d carries. -/
def whalf (d : Bool) : Memref sig .tc .vmem S512x4096 .i8 :=
  wM.slice (Rect.unit (s := S512x8192) ![0, col0 d] S512x4096.size (whalf_inb d)) (fun _ => rfl)
set_option backward.proofsInPublic true in
/-- Slot s of the ring buffer of direction d. -/
def wslot (d : Bool) (s : Fin 4) : Memref sig .tc .vmem S512x4096 .i8 :=
  ((ringM d).slice (Rect.unit (s := S4x512x4096) ![s.val, 0, 0] S1x512x4096.size (wslot_inb s)) (fun _ => rfl)).squeeze S512x4096 squeezes_S1x512x4096_S512x4096

/-- The units of a transfer of a block of x, and of a half of the weights. -/
abbrev NX : ℕ := (gslot 0).view.dmaCredit
abbrev NW : ℕ := (wslot true 0).view.dmaCredit

theorem NX_pos : 0 < NX := View.dmaCredit_pos _ (by decide)
theorem NW_pos : 0 < NW := View.dmaCredit_pos _ (by decide)
theorem gslot_credit (t : Dev nD) : (gslot t).view.dmaCredit = NX := rfl
theorem wslot_credit (d : Bool) (s : Fin 4) : (wslot d s).view.dmaCredit = NW := by cases d <;> rfl

/-! ## Resources -/

abbrev UB : Type := URounds (GSem nD τ sig) (Dev nD)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- A view of device c's memory held at share q with the block X in it. -/
def own {sp : Space} {s : Shape} {e : EltTy} (c : Dev nD) (M : Memref sig .tc sp s e) (q : PosShare TreeShare) (X : s.Idx → Elt F e) : sProp 𝕄 :=
  M.view.loc (c : Thread nD τ) ↦[M.view.set]{q} M.view.rep X

/-- A view of device c's memory held outright, whatever is in it. -/
def anyOf {sp : Space} {s : Shape} {e : EltTy} (c : Dev nD) (M : Memref sig .tc sp s e) : sProp 𝕄 :=
  iprop(∃ f, M.view.loc (c : Thread nD τ) ↦[M.view.set]{fullShare} f)

omit [FloatOps F] in
instance own_storable {sp : Space} {s : Shape} {e : EltTy} (c : Dev nD) (M : Memref sig .tc sp s e) (q : PosShare TreeShare) (X : s.Idx → Elt F e) :
    BI.Storable (upEmb : UEmb _ 𝕄) (own c M q X) := by unfold own; infer_instance
omit [FloatOps F] in
instance anyOf_storable {sp : Space} {s : Shape} {e : EltTy} (c : Dev nD) (M : Memref sig .tc sp s e) :
    BI.Storable (upEmb : UEmb _ 𝕄) (anyOf (F := F) c M) := by unfold anyOf; infer_instance

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- Device c's columns of x, and its rows of the weights. -/
def xstg (c : Dev nD) : S4096x512.Idx → Elt F .i8 :=
  (win0_0.blk (0 : Fin 1)).view.read (Elt F) (m ((c : Thread nD τ).loc main_arg0))
def wstg (c : Dev nD) : S512x8192.Idx → Elt F .i8 :=
  (win0_1.blk (0 : Fin 1)).view.read (Elt F) (m ((c : Thread nD τ).loc main_arg1))

/-- Rows 512 t … of device c's columns of x. -/
def xpart (c t : Dev nD) : S512x512.Idx → Elt F .i8 := (xblk t).view.read (Elt F) (xstg m c)
/-- The half of device c's rows of the weights that direction d carries. -/
def wpart (c : Dev nD) (d : Bool) : S512x4096.Idx → Elt F .i8 := (whalf d).view.read (Elt F) (wstg m c)

/-! ## The schedule -/

/-- The duties of round r of a cell of device c. -/
def dutK (c : Dev nD) : CK → ℕ → Finset (Dev nD)
  | .bar, r => if r = 0 then Finset.univ.erase c else ∅
  | .xs t, r => if r = 0 ∧ t ≠ c then {0} else ∅
  | .xr t, r => if r = 0 ∧ t ≠ c then {0} else ∅
  | .hs _ p, r => if 2 * r + p.val < 7 then {0} else ∅
  | .hr _ p, r => if 2 * r + p.val < 7 then {0} else ∅
  | .cr _ s, r => if r = 0 ∧ s.val < 3 then {0} else ∅

/-- The units of a duty. -/
def amtK : CK → ℕ
  | .bar => 1
  | .xs _ => NX
  | .xr _ => NX
  | .hs _ _ => NW
  | .hr _ _ => NW
  | .cr _ _ => 1

/-- A device's four slots of a direction, whatever is in them. -/
def slots (d : Bool) (c : Dev nD) : sProp 𝕄 := bigSep Finset.univ fun s : Fin 4 => anyOf c (wslot d s)

/-- What hop h of direction d reads on device c: at hop 0 the half of its own weights, later the slot of the hop
    before, held at half a share. -/
def srcAt (d : Bool) (c : Dev nD) (h : ℕ) : sProp 𝕄 :=
  if h = 0 then own c (whalf d) fullShare.right (wpart m c d)
  else own c (wslot d (sl (h + 3))) fullShare.right (wpart m (org d c (h - 1)) d)

/-- What hop h of direction d brings to device c: its slot with the weights of the hop's origin. -/
def landAt (d : Bool) (c : Dev nD) (h : ℕ) : sProp 𝕄 :=
  own c (wslot d (sl h)) fullShare (wpart m (org d c h) d)

/-- That the sender of hop h of direction d to device c has taken, from the other direction, what hop h - 1 brought it:
    so device c may send it hop h + 1 of the other direction. -/
def backAt (d : Bool) (c : Dev nD) (h : ℕ) : sProp 𝕄 :=
  if h = 0 then iprop(emp) else reached ER (cell (nbr (!d) c) (.hr (!d) (par (h + 1)))) ((h + 1) / 2)

/-- What a unit of a cell of device c hands over. -/
def payK (c : Dev nD) : CK → ℕ → Dev nD → sProp 𝕄
  | .bar, _, p => iprop(anyOf p (gslot c) ∗ (if p = nbr true c then slots true p else iprop(emp))
      ∗ (if p = nbr false c then slots false p else iprop(emp)))
  | .xs t, _, _ => own c (xblk t) fullShare (xpart m c t)
  | .xr t, _, _ => own c (gslot t) fullShare (xpart m t c)
  | .hs d p, r, _ => srcAt m d c (2 * r + p.val)
  | .hr d p, r, _ => iprop(landAt m d c (2 * r + p.val) ∗ backAt d c (2 * r + p.val))
  | .cr d s, _, _ => anyOf (nbr d c) (wslot d s)

def duties (g : GSem nD τ sig) (r : ℕ) : Finset (Dev nD) := match kind g.2 with | some k => dutK g.1.1 k r | none => ∅
def amount (g : GSem nD τ sig) (_ : ℕ) (_ : Dev nD) : ℕ := match kind g.2 with | some k => amtK k | none => 1
def payload (g : GSem nD τ sig) (r : ℕ) (p : Dev nD) : sProp 𝕄 := match kind g.2 with | some k => payK m g.1.1 k r p | none => iprop(emp)

theorem amtK_pos (k : CK) : 0 < amtK k := by
  cases k <;> first | exact Nat.one_pos | exact NX_pos | exact NW_pos

/-- The schedule of the mesh. -/
def Rd : Schedule (GSem nD τ sig) (Dev nD) 𝕄 where
  duties := duties
  amount := amount
  payload := payload m
  amount_pos := fun g r d _ => by
    show 0 < amount g r d
    unfold amount
    cases kind g.2 with
    | none => exact Nat.one_pos
    | some k => exact amtK_pos k

theorem Rd_duties (c : Dev nD) (k : CK) (r : ℕ) : (Rd m).duties (cell c k) r = dutK c k r := by
  show duties (cell c k) r = _
  unfold duties cell
  simp only [kind_loc]
theorem Rd_amount (c : Dev nD) (k : CK) (r : ℕ) (p : Dev nD) : (Rd m).amount (cell c k) r p = amtK k := by
  show amount (cell c k) r p = _
  unfold amount cell
  simp only [kind_loc]
theorem Rd_payload (c : Dev nD) (k : CK) (r : ℕ) (p : Dev nD) : (Rd m).payload (cell c k) r p = payK m c k r p := by
  show payload m (cell c k) r p = _
  unfold payload cell
  simp only [kind_loc]
theorem Rd_expect (c : Dev nD) (k : CK) (r : ℕ) : (Rd m).expect (cell c k) r = (dutK c k r).card * amtK k := by
  show ∑ d ∈ (Rd m).duties (cell c k) r, (Rd m).amount (cell c k) r d = _
  rw [Rd_duties]
  simp only [Rd_amount, Finset.sum_const, smul_eq_mul]

instance payK_storable (c : Dev nD) (k : CK) (r : ℕ) (p : Dev nD) : BI.Storable (upEmb : UEmb _ 𝕄) (payK m c k r p) := by
  cases k with
  | bar =>
    show BI.Storable _ iprop(anyOf p (gslot c) ∗ (if p = nbr true c then slots true p else iprop(emp))
      ∗ (if p = nbr false c then slots false p else iprop(emp)))
    unfold slots; split <;> split <;> infer_instance
  | xs t => show BI.Storable _ (own c (xblk t) fullShare (xpart m c t)); infer_instance
  | xr t => show BI.Storable _ (own c (gslot t) fullShare (xpart m t c)); infer_instance
  | hs d q => show BI.Storable _ (srcAt m d c (2 * r + q.val)); unfold srcAt; split <;> infer_instance
  | hr d q =>
    show BI.Storable _ iprop(landAt m d c (2 * r + q.val) ∗ backAt d c (2 * r + q.val))
    unfold landAt backAt; split <;> infer_instance
  | cr d s => show BI.Storable _ (anyOf (nbr d c) (wslot d s)); infer_instance
instance Rd_storable (g : GSem nD τ sig) (r : ℕ) (p : Dev nD) : BI.Storable (upEmb : UEmb _ 𝕄) ((Rd m).payload g r p) := by
  show BI.Storable _ (payload m g r p)
  unfold payload
  cases kind g.2 with
  | none => infer_instance
  | some k => infer_instance

/-! ## What a device pays, in order -/

/-- A payment: the device and the cell paid, the round, the duty. -/
abbrev PE : Type := Dev nD × CK × ℕ × Dev nD

/-- The payment of hop h of direction d by device c. -/
def hopPE (c : Dev nD) (d : Bool) (h : ℕ) : PE := (nbr d c, .hr d (par h), h / 2, 0)
/-- The credit for slot s of direction d by device c. -/
def crPE (c : Dev nD) (d : Bool) (s : Fin 4) : PE := (nbr (!d) c, .cr d s, 0, 0)

/-- Device c's payments in program order. -/
def pays (c : Dev nD) : List PE :=
  [(sh 1 c, .bar, 0, c), (sh 2 c, .bar, 0, c), (sh 3 c, .bar, 0, c), (sh 4 c, .bar, 0, c), (sh 5 c, .bar, 0, c), (sh 6 c, .bar, 0, c), (sh 7 c, .bar, 0, c),
   hopPE c true 0, hopPE c false 0,
   (sh 1 c, .xr c, 0, 0), (sh 2 c, .xr c, 0, 0), (sh 3 c, .xr c, 0, 0), (sh 4 c, .xr c, 0, 0), (sh 5 c, .xr c, 0, 0), (sh 6 c, .xr c, 0, 0), (sh 7 c, .xr c, 0, 0),
   hopPE c true 1, hopPE c false 1,
   hopPE c true 2, hopPE c false 2,
   crPE c true 0, crPE c false 0, crPE c true 1, crPE c false 1,
   hopPE c true 3, hopPE c false 3,
   hopPE c true 4, hopPE c false 4,
   crPE c true 2, crPE c false 2,
   hopPE c true 5, hopPE c false 5,
   hopPE c true 6, hopPE c false 6]

/-- The send cells and rounds of device c's transfers in program order. -/
def sends (c : Dev nD) : List (CK × ℕ) :=
  [(.hs true 0, 0), (.hs false 0, 0),
   (.xs (sh 1 c), 0), (.xs (sh 2 c), 0), (.xs (sh 3 c), 0), (.xs (sh 4 c), 0), (.xs (sh 5 c), 0), (.xs (sh 6 c), 0), (.xs (sh 7 c), 0),
   (.hs true 1, 0), (.hs false 1, 0), (.hs true 0, 1), (.hs false 0, 1), (.hs true 1, 1), (.hs false 1, 1),
   (.hs true 0, 2), (.hs false 0, 2), (.hs true 1, 2), (.hs false 1, 2), (.hs true 0, 3), (.hs false 0, 3)]

/-- The cells and rounds device c waits for and others pay, in program order. -/
def waitsFor (c : Dev nD) : List (CK × ℕ) :=
  [(.bar, 0),
   (.hr true 0, 0), (.hr false 0, 0),
   (.hr true 1, 0), (.hr false 1, 0),
   (.xr (sh 7 c), 0), (.xr (sh 6 c), 0), (.xr (sh 1 c), 0), (.xr (sh 2 c), 0),
   (.hr true 0, 1), (.hr false 0, 1),
   (.hr true 1, 1), (.hr false 1, 1),
   (.cr true 0, 0), (.cr false 0, 0),
   (.xr (sh 5 c), 0), (.xr (sh 3 c), 0), (.xr (sh 4 c), 0),
   (.hr true 0, 2), (.hr false 0, 2),
   (.cr true 1, 0), (.cr false 1, 0),
   (.hr true 1, 2), (.hr false 1, 2),
   (.cr true 2, 0), (.cr false 2, 0),
   (.hr true 0, 3), (.hr false 0, 3)]

/-- The payment as the ledger counts it: at index the round. -/
def toPay (e : PE) : Pay nD τ sig := (cell e.1 e.2.1, e.2.2.1, amtK e.2.1)

/-- The level of a round of a cell: below what a device still owes when it waits there. -/
def lvK : CK → ℕ → ℕ
  | .bar, _ => 1
  | .xs _, _ => 0
  | .xr _, _ => 2
  | .hs _ _, _ => 0
  | .hr _ p, r => 10 * (2 * r + p.val + 1)
  | .cr _ s, _ => if s.val < 2 then 25 else 45

def lv (g : GSem nD τ sig) (r : ℕ) : ℕ := match kind g.2 with | some k => lvK k r | none => 0
theorem lv_cell (c : Dev nD) (k : CK) (r : ℕ) : lv (cell c k) r = lvK k r := by
  unfold lv cell
  simp only [kind_loc]

def L (g : GSem nD τ sig) : Finset ℕ := if g.1.2 = .tc then Finset.range 8 else ∅
theorem L_of_ne (g : GSem nD τ sig) (h : g.1.2 ≠ .tc) : L g = ∅ := if_neg h
theorem mem_L (c : Dev nD) (sm : SemLoc sig) {r : ℕ} (h : r < 8) : r ∈ L ((c : Thread nD τ), sm) := by
  unfold L; rw [if_pos rfl]; exact Finset.mem_range.mpr h

/-- A device may wait for a round of a cell while every payment it still owes is at a higher level. -/
theorem mayWait_pays (c : Dev nD) (k : CK) {r : ℕ} (hr : r < 8) (l : List PE)
    (hl : ∀ e ∈ l, e.2.2.1 < 8 ∧ lvK k r < lvK e.2.1 e.2.2.1) :
    (levAts L lv : sProp 𝕄) ⊢ MayWait (c : Thread nD τ) (loc k) r (tallyL (l.map toPay)) :=
  Pipeline.mayWait_of_levAts (mem_L c _ hr) fun g i h => by
    obtain ⟨x, hx, rfl, rfl⟩ := TalkSites.tallyL_pos h
    obtain ⟨e, he, rfl⟩ := List.mem_map.mp hx
    obtain ⟨h1, h2⟩ := hl e he
    refine ⟨mem_L e.1 _ h1, ?_⟩
    show lv (cell c k) r < lv (cell e.1 e.2.1) e.2.2.1
    rw [lv_cell, lv_cell]
    exact h2

end Cert.RingProof
-- ==== Proof.Steps.lean ====
/-
# The effects of the protocol, one lemma each

What a device holds of the protocol while it runs is gathered in `Led`: the payments it still owes with their tokens,
the tokens of its transfers to come, the credits of its waits to come, and its place at each of its cells. A signal, a
transfer and a wait each take the head of one list.
-/
module

public import proofs.«01_k».proof.Proof.Proto

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

abbrev 𝒱₀ : Variants := Variants.none

/-- A device's place at each of its cells: at round `R k` of cell k. -/
def posAll (c : Dev nD) (R : CK → ℕ) : sProp 𝕄 := bigSep Finset.univ fun k : CK => atPos ER (cell c k) (R k) ∅ 0

/-- The right to make a payment. -/
def tokP (e : PE) : sProp 𝕄 := dutyTok ER (cell e.1 e.2.1) e.2.2.1 e.2.2.2
/-- The right to have a round of an own send cell paid. -/
def tokS (c : Dev nD) (x : CK × ℕ) : sProp 𝕄 := dutyTok ER (cell c x.1) x.2 0
/-- The units a wait takes. -/
def unitsK : CK → ℕ
  | .bar => 7
  | .xs _ => NX
  | .xr _ => NX
  | .hs _ _ => NW
  | .hr _ _ => NW
  | .cr _ _ => 1
/-- The credit for a wait. -/
def crd (c : Dev nD) (x : CK × ℕ) : sProp 𝕄 := cred (tallyAt (cell c x.1) x.2 (unitsK x.1))

/-- What device c holds of the protocol: the payments ps to make, the transfers ss to issue, the waits ws to come whose
    cells others pay, and its places. -/
def Led (c : Dev nD) (ps : List PE) (ss ws : List (CK × ℕ)) (R : CK → ℕ) : sProp 𝕄 :=
  iprop((∃ W, owes (c : Thread nD τ) (tallyL (ps.map toPay)) W) ∗ bigSepL ps tokP ∗ bigSepL ss (tokS c) ∗ bigSepL ws (crd c) ∗ posAll c R)

/-- What every device knows: the levels, and each cell's invariant with its round 0 begun. -/
def Env (K : Dev nD × CK → ℕ) : sProp 𝕄 :=
  iprop(levAts L lv ∗ bigSep Finset.univ fun ck : Dev nD × CK => iprop(cellInv ER (Rd m) (K ck) (cell ck.1 ck.2) ∗ reached ER (cell ck.1 ck.2) 0))

instance Env_persistent (K : Dev nD × CK → ℕ) : BI.Persistent (Env m K) := by unfold Env; infer_instance

variable (K : Dev nD × CK → ℕ)

theorem Env_levs : Env m K ⊢ (levAts L lv : sProp 𝕄) := by
  unfold Env; iintro ⟨H, -⟩; iexact H
theorem Env_cell (c : Dev nD) (k : CK) : Env m K ⊢ iprop(cellInv ER (Rd m) (K (c, k)) (cell c k) ∗ reached ER (cell c k) 0) := by
  unfold Env
  refine BIBase.Entails.trans ?_ (BI.bigSep_elim (Φ := fun ck : Dev nD × CK => iprop(cellInv ER (Rd m) (K ck) (cell ck.1 ck.2) ∗ reached ER (cell ck.1 ck.2) 0)) (Finset.mem_univ (c, k)))
  iintro ⟨-, H⟩; iexact H
theorem Env_inv (c : Dev nD) (k : CK) : Env m K ⊢ cellInv ER (Rd m) (K (c, k)) (cell c k) := by
  refine (Env_cell m K c k).trans ?_; iintro ⟨H, -⟩; iexact H
theorem Env_reached (c : Dev nD) (k : CK) : Env m K ⊢ (reached ER (cell c k) 0 : sProp 𝕄) := by
  refine (Env_cell m K c k).trans ?_; iintro ⟨-, H⟩; iexact H

/-- One place taken out of all, and put back at another round. -/
theorem posAll_take (c : Dev nD) (R : CK → ℕ) (k : CK) (r : ℕ) :
    (posAll c R : sProp 𝕄) ⊢ iprop(atPos ER (cell c k) (R k) ∅ 0 ∗ (atPos ER (cell c k) r ∅ 0 -∗ posAll c (Function.update R k r))) := by
  unfold posAll
  have e (R : CK → ℕ) : (bigSep Finset.univ fun k : CK => (atPos ER (cell c k) (R k) ∅ 0 : sProp 𝕄))
      = iprop(atPos ER (cell c k) (R k) ∅ 0 ∗ bigSep (Finset.univ.erase k) fun k : CK => atPos ER (cell c k) (R k) ∅ 0) :=
    BI.bigSep_erase (Finset.mem_univ k)
  rw [e R, e (Function.update R k r), Function.update_self,
    BI.bigSep_congr (Φ := fun k' : CK => (atPos ER (cell c k') (Function.update R k r k') ∅ 0 : sProp 𝕄)) (Ψ := fun k' : CK => atPos ER (cell c k') (R k') ∅ 0)
      (fun k' hk' => by rw [Function.update_of_ne (Finset.ne_of_mem_erase hk')])]
  iintro ⟨H, HR⟩
  isplitl [H]; · iexact H
  iintro H
  isplitl [H] <;> iassumption

/-- A signal: the head payment. -/
theorem step_signal (c n : Dev nD) {t : Dev nD} {k : CK} {p : Dev nD} (hn : n = t) {sem : Sem sig} (hsem : loc k = .reg sem)
    (hd : p ∈ dutK t k 0) (hk : amtK k = 1) {N : ℤ} (hN : N = 1) {α : Type} {Kt : α → sProp 𝕄} {kk : PUnit → Prog (TpuEff nD τ sig (Elt F) Λ₀ .tc) α}
    (ps : List PE) (ss ws : List (CK × ℕ)) (R : CK → ℕ) :
    iprop(Env m K ∗ payK m t k 0 p ∗ Led c ((t, k, 0, p) :: ps) ss ws R)
      ⊢ iprop((Led c ps ss ws R -∗ wp frame (wpE (defs₀ (F := F)) 𝒱₀ (c : Thread nD τ) none) Set.univ (kk ⟨⟩) Kt)
          -∗ wp frame (wpE (defs₀ (F := F)) 𝒱₀ (c : Thread nD τ) none) Set.univ (.op (.semSignal (Dev.tc n : Thread nD τ) sem N) kk) Kt) := by
  subst hn hN
  have hc : cell n k = ((n : Thread nD τ), .reg sem) := by unfold cell; rw [hsem]
  have hO : tallyL (((n, k, 0, p) :: ps).map toPay) = tallyL (ps.map toPay) + tallyAt ((n : Thread nD τ), .reg sem) 0 (1 : ℤ).toNat := by
    rw [← hc, List.map_cons, tallyL, add_comm]; unfold toPay Pay.tally; simp only [hk]; rfl
  unfold Led
  rw [bigSepL_cons']
  iintro ⟨#HE, Hp, ⟨⟨%W, HO⟩, ⟨Ht, Hts⟩, Hss, Hws, HR⟩⟩ Hk
  iapply (Rounds.wp_signal 𝒱₀ ER (Rd m) (c : Thread nD τ) none (dst := (n : Thread nD τ)) (sem := sem) (κ := K (n, k)) (r := 0) (d := p)
    (by rw [← hc, Rd_duties]; exact hd) (by rw [← hc, Rd_amount, hk]; decide) 0 (tallyL (ps.map toPay)) hO) $$ [HO Ht Hp]
  · rw [← hc]
    isplitr; · iapply (Env_inv m K n k); iexact HE
    isplitl [HO]; · iexact HO
    isplitl [Ht]; · unfold tokP; iexact Ht
    isplitl [Hp]; · rw [Rd_payload]; iexact Hp
    iapply (Env_reached m K n k); iexact HE
  iintro HO
  iapply Hk
  isplitl [HO]; · iexists W; iexact HO
  isplitl [Hts]; · iexact Hts
  isplitl [Hss]; · iexact Hss
  isplitl [Hws] <;> iassumption

/-- A wait whose cell others pay: the head of the waits. -/
theorem step_wait (c : Dev nD) {k : CK} {r : ℕ} {w : TpuEff nD τ sig (Elt F) Λ₀ .tc PUnit} {sm : SemLoc sig} {k' : ℕ} (hsm : loc k = sm)
    (hw : ∀ KK : PUnit → sProp 𝕄, wpE (defs₀ (F := F)) 𝒱₀ (c : Thread nD τ) none Set.univ w KK = waitSpec (c : Thread nD τ) Set.univ sm k' KK)
    (hu : k' = unitsK k) (he : unitsK k = (dutK c k r).card * amtK k) (hr : r < 8)
    {α : Type} {Kt : α → sProp 𝕄} {kk : PUnit → Prog (TpuEff nD τ sig (Elt F) Λ₀ .tc) α}
    (ps : List PE) (ss ws : List (CK × ℕ)) (R : CK → ℕ) (hR : R k = r)
    (hl : ∀ e ∈ ps, e.2.2.1 < 8 ∧ lvK k r < lvK e.2.1 e.2.2.1) :
    iprop(Env m K ∗ Led c ps ss ((k, r) :: ws) R)
      ⊢ iprop((iprop(Led c ps ss ws (Function.update R k (r + 1)) ∗ reached ER (cell c k) (r + 1) ∗ bigSep (dutK c k r) (payK m c k r))
            -∗ wp frame (wpE (defs₀ (F := F)) 𝒱₀ (c : Thread nD τ) none) Set.univ (kk ⟨⟩) Kt)
          -∗ wp frame (wpE (defs₀ (F := F)) 𝒱₀ (c : Thread nD τ) none) Set.univ (.op w kk) Kt) := by
  subst hu hsm
  unfold Led
  rw [bigSepL_cons']
  iintro ⟨#HE, ⟨⟨%W, HO⟩, Hts, Hss, ⟨Hw, Hws⟩, HR⟩⟩ Hk
  ihave HR' := (posAll_take c R k (r + 1)) $$ HR
  icases HR' with ⟨Hat, HR⟩
  rw [hR]
  iapply (Rounds.wp_wait_rest_token 𝒱₀ ER (Rd m) (c : Thread nD τ) none (κ := K (c, k)) hw (Set.mem_univ _) r
    (O := tallyL (ps.map toPay)) (W := W) (R := r) (m := 0) (T := ∅) (by rw [Nat.zero_add]; exact he.trans (Rd_expect m c k r).symm)) $$ [HO Hw Hat]
  · isplitr; · iapply (Env_inv m K c k); iexact HE
    isplitl [Hw]; · unfold crd; iexact Hw
    isplitl [HO]; · iexact HO
    isplitr; · iapply (mayWait_pays c k hr ps hl); iapply (Env_levs m K); iexact HE
    iexact Hat
  iintro ⟨HO, Hat, #Hreach, Hpay⟩
  iapply Hk
  isplitr [Hpay]
  · isplitl [HO]; · iexists _; iexact HO
    isplitl [Hts]; · iexact Hts
    isplitl [Hss]; · iexact Hss
    isplitl [Hws]; · iexact Hws
    iapply HR; iexact Hat
  isplitr; · iexact Hreach
  rw [Finset.sdiff_empty, show ((c : Thread nD τ), loc k) = cell c k from rfl, Rd_duties]
  simp only [Rd_payload]
  iexact Hpay

/-- A wait for an own transfer to have been read out, with the credit its issue gave. -/
theorem step_wait_own (c : Dev nD) {k : CK} {r : ℕ} {w : TpuEff nD τ sig (Elt F) Λ₀ .tc PUnit} {sm : SemLoc sig} {k' : ℕ} (hsm : loc k = sm)
    (hw : ∀ KK : PUnit → sProp 𝕄, wpE (defs₀ (F := F)) 𝒱₀ (c : Thread nD τ) none Set.univ w KK = waitSpec (c : Thread nD τ) Set.univ sm k' KK)
    (hu : k' = unitsK k) (he : unitsK k = (dutK c k r).card * amtK k) (hr : r < 8)
    {α : Type} {Kt : α → sProp 𝕄} {kk : PUnit → Prog (TpuEff nD τ sig (Elt F) Λ₀ .tc) α}
    (ps : List PE) (ss ws : List (CK × ℕ)) (R : CK → ℕ) (hR : R k = r)
    (hl : ∀ e ∈ ps, e.2.2.1 < 8 ∧ lvK k r < lvK e.2.1 e.2.2.1) :
    iprop(Env m K ∗ crd c (k, r) ∗ Led c ps ss ws R)
      ⊢ iprop((iprop(Led c ps ss ws (Function.update R k (r + 1)) ∗ reached ER (cell c k) (r + 1) ∗ bigSep (dutK c k r) (payK m c k r))
            -∗ wp frame (wpE (defs₀ (F := F)) 𝒱₀ (c : Thread nD τ) none) Set.univ (kk ⟨⟩) Kt)
          -∗ wp frame (wpE (defs₀ (F := F)) 𝒱₀ (c : Thread nD τ) none) Set.univ (.op w kk) Kt) := by
  refine BIBase.Entails.trans ?_ (step_wait m K c hsm hw hu he hr ps ss ws R hR hl)
  unfold Led
  rw [bigSepL_cons']
  iintro ⟨#HE, Hc, ⟨HO, Hts, Hss, Hws, HR⟩⟩
  isplitr; · iexact HE
  isplitl [HO]; · iexact HO
  isplitl [Hts]; · iexact Hts
  isplitl [Hss]; · iexact Hss
  isplitl [Hc Hws]
  · isplitl [Hc] <;> iassumption
  iexact HR

/-- A transfer: the head payment and the head of the own transfers. It reads src, held at some share with the block X in
    it, and fills dst on device t, held outright. -/
theorem step_send (c n : Dev nD) {t : Dev nD} {s : Shape} (hs : 0 < s.numel) {ks kr : CK} {r : ℕ} (hn : n = t)
    {src dst : Memref sig .tc .vmem s .i8} {src' dst' : Memref sig .tc .vmem s .i8} (hsrc' : src = src') (hdst' : dst = dst')
    {sS sR : DmaSem sig} (hsS : loc ks = .dma sS) (hsR : loc kr = .dma sR) {N : ℕ}
    (hN : dst'.view.dmaCredit = N) (hks : amtK ks = N) (hkr : amtK kr = N) (hus : unitsK ks = N)
    (hds : (0 : Dev nD) ∈ dutK c ks r) (hdr : (0 : Dev nD) ∈ dutK t kr r)
    {hsc : (dst : Memref sig (Dev.tc n : Thread nD τ).2.kind .vmem s .i8).view.ref.isScScratch = false}
    {hsrc : src.view.WordExact} {hdst : dst.view.WordExact}
    {hsem : DmaTarget.Typed .vmem (.dma sR) (.remote (Dev.tc n : Thread nD τ) dst (.dma sS) hsc)}
    {α : Type} {Kt : α → sProp 𝕄} {kk : PUnit → Prog (TpuEff nD τ sig (Elt F) Λ₀ .tc) α} (q : PosShare TreeShare) (X : s.Idx → Elt F .i8) (B : sProp 𝕄)
    (hps : own c src' q X ⊢ payK m c ks r 0) (hpr : iprop(own t dst' fullShare X ∗ B) ⊢ payK m t kr r 0)
    (ps : List PE) (ss ws : List (CK × ℕ)) (R : CK → ℕ) :
    iprop(Env m K ∗ own c src' q X ∗ anyOf t dst' ∗ B ∗ reached ER (cell c ks) r ∗ reached ER (cell t kr) r
        ∗ Led c ((t, kr, r, 0) :: ps) ((ks, r) :: ss) ws R)
      ⊢ iprop((iprop(crd c (ks, r) ∗ Led c ps ss ws R) -∗ wp frame (wpE (defs₀ (F := F)) 𝒱₀ (c : Thread nD τ) none) Set.univ (kk ⟨⟩) Kt)
          -∗ wp frame (wpE (defs₀ (F := F)) 𝒱₀ (c : Thread nD τ) none) Set.univ
            (.op (.enqueueDma src (.remote (Dev.tc n : Thread nD τ) dst (.dma sS) hsc) (.dma sR) hsrc hdst hsem) kk) Kt) := by
  subst hn hsrc' hdst'
  have hcs : cell c ks = ((c : Thread nD τ), .dma sS) := by unfold cell; rw [hsS]
  have hcr : cell n kr = ((n : Thread nD τ), .dma sR) := by unfold cell; rw [hsR]
  have hO : tallyL (((n, kr, r, (0 : Dev nD)) :: ps).map toPay) = tallyL (ps.map toPay) + tallyAt ((n : Thread nD τ), .dma sR) r N := by
    rw [← hcr, List.map_cons, tallyL, add_comm]; unfold toPay Pay.tally; simp only [hkr]
  unfold Led own anyOf
  rw [bigSepL_cons', bigSepL_cons']
  iintro ⟨#HE, Hsrc, ⟨%fd, Hdst⟩, HB, Hrs, Hrr, ⟨⟨%W, HO⟩, ⟨Ht, Hts⟩, ⟨Hs, Hss⟩, Hws, HR⟩⟩ Hk
  iapply (Rounds.wp_send_pointsTo_with 𝒱₀ ER (Rd m) (c : Thread nD τ) none (c' := (n : Thread nD τ)) (src := src) (dst := dst)
    (κ₁ := K (c, ks)) (κ₂ := K (n, kr)) (r₁ := r) (r₂ := r) (d₁ := 0) (d₂ := 0) (F := B) (fd := fd) (q := q)
    (by rw [← hcs, Rd_duties]; exact hds) (by rw [← hcr, Rd_duties]; exact hdr) r r N (sem := .dma sR) hN
    (by rw [← hcs, Rd_amount]; exact hks) (by rw [← hcr, Rd_amount]; exact hkr) (tallyL (ps.map toPay))
    hO
    (by rw [← hcs, Rd_payload]; exact hps)
    (by
      rw [← hcr, Rd_payload]
      refine BIBase.Entails.trans ?_ hpr
      refine sep_mono_left ?_
      rw [View.read_rep]
      unfold own
      exact pointsTo_rep_of_read (n : Thread nD τ) dst _ fullShare X (View.read_write_univ _ _))) $$ [Hsrc Hdst HB Hrs Hrr HO Ht Hs]
  · rw [← hcs, ← hcr]
    isplitr; · iapply (Env_inv m K c ks); iexact HE
    isplitr; · iapply (Env_inv m K n kr); iexact HE
    isplitl [Hsrc]; · iexact Hsrc
    isplitl [Hdst HB]
    · isplitl [Hdst] <;> iassumption
    isplitl [HO]; · iexact HO
    isplitl [Hs]; · unfold tokS; iexact Hs
    isplitl [Hrs]; · iexact Hrs
    isplitl [Ht]; · unfold tokP; iexact Ht
    iexact Hrr
  iintro ⟨Hc, HO⟩
  iapply Hk
  isplitl [Hc]; · unfold crd; rw [hus, hcs]; iexact Hc
  isplitl [HO]; · iexists W; iexact HO
  isplitl [Hts]; · iexact Hts
  isplitl [Hss]; · iexact Hss
  isplitl [Hws] <;> iassumption

end Cert.RingProof
-- ==== Proof.Moves.lean ====
/-
# The moves of a device

The effects of the protocol once more, each at the place of the program where a device makes it: `St c i j w n` is what
device c holds after i payments, j transfers of its own issued, w waits for others, and n waits in all. With them the
loads and stores of the memory the protocol hands about.
-/
module

public import proofs.«01_k».proof.Proof.Steps

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)

/-- Device c's waits in program order. -/
def waitSeq (c : Dev nD) : List CK :=
  [.bar,
   .hs true 0, .hs false 0, .hr true 0, .hr false 0,
   .hs true 1, .hs false 1, .hr true 1, .hr false 1,
   .xr (sh 7 c), .xr (sh 6 c), .xr (sh 1 c), .xr (sh 2 c),
   .hs true 0, .hs false 0, .hr true 0, .hr false 0,
   .hs true 1, .hs false 1, .hr true 1, .hr false 1,
   .cr true 0, .cr false 0,
   .xr (sh 5 c), .xr (sh 3 c), .xr (sh 4 c),
   .hs true 0, .hs false 0, .hr true 0, .hr false 0,
   .cr true 1, .cr false 1,
   .hs true 1, .hs false 1, .hr true 1, .hr false 1,
   .cr true 2, .cr false 2,
   .hs true 0, .hs false 0, .hr true 0, .hr false 0,
   .xs (sh 1 c), .xs (sh 2 c), .xs (sh 3 c), .xs (sh 4 c), .xs (sh 5 c), .xs (sh 6 c), .xs (sh 7 c)]

/-- The round each cell has reached after n waits. -/
def cnt (c : Dev nD) (n : ℕ) : CK → ℕ := fun k => ((waitSeq c).take n).count k

/-- What device c holds of the protocol after i payments, j own transfers, w waits for others and n waits in all. -/
def St (c : Dev nD) (i j w n : ℕ) : sProp 𝕄 :=
  Led c ((pays c).drop i) ((sends c).drop j) ((waitsFor c).drop w) (cnt c n)

theorem drop_head {α : Type} {l : List α} {i : ℕ} {a : α} (h : l[i]? = some a) : l.drop i = a :: l.drop (i + 1) := by
  rw [List.drop_eq_getElem?_toList_append, h]; rfl

theorem cnt_succ {c : Dev nD} {n : ℕ} {k : CK} (h : (waitSeq c)[n]? = some k) :
    Function.update (cnt c n) k (cnt c n k + 1) = cnt c (n + 1) := by
  funext k'
  unfold cnt
  rw [List.take_add_one, h, List.count_append]
  by_cases hk : k' = k
  · subst hk
    rw [Function.update_self]
    simp
  · rw [Function.update_of_ne hk]
    have : ([k] : List CK).count k' = 0 := List.count_eq_zero.mpr (by simpa using hk)
    simp [this]

/-- That device c may make wait n, for round r of cell k, having made i payments. -/
def WOK (c : Dev nD) (k : CK) (r i n : ℕ) : Prop :=
  ((waitSeq c)[n]? = some k ∧ cnt c n k = r ∧ r < 8) ∧ ∀ e ∈ (pays c).drop i, e.2.2.1 < 8 ∧ lvK k r < lvK e.2.1 e.2.2.1
instance (c : Dev nD) (k : CK) (r i n : ℕ) : Decidable (WOK c k r i n) := by unfold WOK; infer_instance

variable (K : Dev nD × CK → ℕ)

/-- A wait whose cell others pay. -/
theorem st_wait (c : Dev nD) {k : CK} {r : ℕ} {w : TpuEff nD τ sig (Elt F) Λ₀ .tc PUnit} {sm : SemLoc sig} {k' : ℕ} (hsm : loc k = sm)
    (hw : ∀ KK : PUnit → sProp 𝕄, wpE (defs₀ (F := F)) 𝒱₀ (c : Thread nD τ) none Set.univ w KK = waitSpec (c : Thread nD τ) Set.univ sm k' KK)
    (hu : k' = unitsK k) (he : unitsK k = (dutK c k r).card * amtK k)
    {α : Type} {Kt : α → sProp 𝕄} {kk : PUnit → Prog (TpuEff nD τ sig (Elt F) Λ₀ .tc) α}
    {i j v n : ℕ} (hok : WOK c k r i n) (hv : (waitsFor c)[v]? = some (k, r)) :
    iprop(Env m K ∗ St c i j v n)
      ⊢ iprop((iprop(St c i j (v + 1) (n + 1) ∗ reached ER (cell c k) (r + 1) ∗ bigSep (dutK c k r) (payK m c k r))
            -∗ wp frame (wpE (defs₀ (F := F)) 𝒱₀ (c : Thread nD τ) none) Set.univ (kk ⟨⟩) Kt)
          -∗ wp frame (wpE (defs₀ (F := F)) 𝒱₀ (c : Thread nD τ) none) Set.univ (.op w kk) Kt) := by
  obtain ⟨⟨h1, h2, h3⟩, h4⟩ := hok
  unfold St
  rw [drop_head hv, ← cnt_succ h1, h2]
  exact step_wait m K c hsm hw hu he h3 _ _ _ _ h2 h4

/-- A wait for an own transfer. -/
theorem st_wait_own (c : Dev nD) {k : CK} {r : ℕ} {w : TpuEff nD τ sig (Elt F) Λ₀ .tc PUnit} {sm : SemLoc sig} {k' : ℕ} (hsm : loc k = sm)
    (hw : ∀ KK : PUnit → sProp 𝕄, wpE (defs₀ (F := F)) 𝒱₀ (c : Thread nD τ) none Set.univ w KK = waitSpec (c : Thread nD τ) Set.univ sm k' KK)
    (hu : k' = unitsK k) (he : unitsK k = (dutK c k r).card * amtK k)
    {α : Type} {Kt : α → sProp 𝕄} {kk : PUnit → Prog (TpuEff nD τ sig (Elt F) Λ₀ .tc) α}
    {i j v n : ℕ} (hok : WOK c k r i n) :
    iprop(Env m K ∗ crd c (k, r) ∗ St c i j v n)
      ⊢ iprop((iprop(St c i j v (n + 1) ∗ reached ER (cell c k) (r + 1) ∗ bigSep (dutK c k r) (payK m c k r))
            -∗ wp frame (wpE (defs₀ (F := F)) 𝒱₀ (c : Thread nD τ) none) Set.univ (kk ⟨⟩) Kt)
          -∗ wp frame (wpE (defs₀ (F := F)) 𝒱₀ (c : Thread nD τ) none) Set.univ (.op w kk) Kt) := by
  obtain ⟨⟨h1, h2, h3⟩, h4⟩ := hok
  unfold St
  rw [← cnt_succ h1, h2]
  exact step_wait_own m K c hsm hw hu he h3 _ _ _ _ h2 h4

/-! ## The ring -/

/-- What hop h of direction d reads: the half of the weights, later the slot of the hop before. -/
def srcM (d : Bool) : ℕ → Memref sig .tc .vmem S512x4096 .i8
  | 0 => whalf d
  | h + 1 => wslot d (sl h)

theorem sl_add (h : ℕ) : sl (h + 4) = sl h := by unfold sl; simp
theorem par_add (h : ℕ) : par (h + 2) = par h := by unfold par; simp
theorem two_par (h : ℕ) : 2 * (h / 2) + (par h).val = h := by unfold par; simp only; omega
theorem org_zero (d : Bool) (c : Dev nD) : org d (nbr d c) 0 = c := by revert c d; decide +kernel
theorem org_succ (d : Bool) (c : Dev nD) {h : ℕ} (hh : h < 6) : org d (nbr d c) (h + 1) = org d c h := by
  have H : ∀ (h : Fin 6) (d : Bool) (c : Dev nD), org d (nbr d c) (h.val + 1) = org d c h.val := by decide +kernel
  exact H ⟨h, hh⟩ d c

theorem srcAt_eq (d : Bool) (c : Dev nD) {h : ℕ} (hh : h < 7) :
    srcAt m d c h = own c (srcM d h) fullShare.right (wpart m (org d (nbr d c) h) d) := by
  unfold srcAt
  cases h with
  | zero => rw [if_pos rfl, org_zero]; rfl
  | succ h => rw [if_neg (Nat.succ_ne_zero h), org_succ d c (by omega), show h + 1 + 3 = h + 4 from rfl, sl_add]; rfl

/-- That hop h of direction d finds its send cell free. -/
def rs (c : Dev nD) (d : Bool) (h : ℕ) : sProp 𝕄 := reached ER (cell c (.hs d (par h))) (h / 2)
/-- That hop h of direction d finds its receive cell free, and that device c has taken what the other direction brought. -/
def rdy (c : Dev nD) (d : Bool) (h : ℕ) : sProp 𝕄 :=
  iprop(reached ER (cell (nbr d c) (.hr d (par h))) (h / 2) ∗ backAt d (nbr d c) h)
/-- The credit of the wait for hop h to have been read out. -/
def fly (c : Dev nD) (d : Bool) (h : ℕ) : sProp 𝕄 := crd c (.hs d (par h), h / 2)

theorem rs_zero (c : Dev nD) (d : Bool) : Env m K ⊢ (rs c d 0 : sProp 𝕄) := Env_reached m K c _
theorem rs_one (c : Dev nD) (d : Bool) : Env m K ⊢ (rs c d 1 : sProp 𝕄) := Env_reached m K c _
theorem rdy_zero (c : Dev nD) (d : Bool) : Env m K ⊢ (rdy c d 0 : sProp 𝕄) := by
  unfold rdy backAt
  rw [if_pos rfl]
  iintro #H
  isplitr; · iapply (Env_reached m K (nbr d c) (.hr d (par 0))); iexact H
  iempintro

/-- Hop h of direction d. -/
theorem st_hop (c n : Dev nD) (d : Bool) {h : ℕ} (hh : h < 7) (hn : n = nbr d c)
    {src dst : Memref sig .tc .vmem S512x4096 .i8} (hsrc' : src = srcM d h) (hdst' : dst = wslot d (sl h))
    {sS sR : DmaSem sig} (hsS : loc (.hs d (par h)) = .dma sS) (hsR : loc (.hr d (par h)) = .dma sR)
    {hsc : (dst : Memref sig (Dev.tc n : Thread nD τ).2.kind .vmem S512x4096 .i8).view.ref.isScScratch = false}
    {hsrc : src.view.WordExact} {hdst : dst.view.WordExact}
    {hsem : DmaTarget.Typed .vmem (.dma sR) (.remote (Dev.tc n : Thread nD τ) dst (.dma sS) hsc)}
    {α : Type} {Kt : α → sProp 𝕄} {kk : PUnit → Prog (TpuEff nD τ sig (Elt F) Λ₀ .tc) α}
    {i j v p : ℕ} (hp : (pays c)[i]? = some (hopPE c d h)) (hj : (sends c)[j]? = some (.hs d (par h), h / 2)) :
    iprop(Env m K ∗ srcAt m d c h ∗ anyOf (nbr d c) (wslot d (sl h)) ∗ rs c d h ∗ rdy c d h ∗ St c i j v p)
      ⊢ iprop((iprop(fly c d h ∗ St c (i + 1) (j + 1) v p) -∗ wp frame (wpE (defs₀ (F := F)) 𝒱₀ (c : Thread nD τ) none) Set.univ (kk ⟨⟩) Kt)
          -∗ wp frame (wpE (defs₀ (F := F)) 𝒱₀ (c : Thread nD τ) none) Set.univ
            (.op (.enqueueDma src (.remote (Dev.tc n : Thread nD τ) dst (.dma sS) hsc) (.dma sR) hsrc hdst hsem) kk) Kt) := by
  unfold St
  rw [drop_head hp, drop_head hj, srcAt_eq m d c hh]
  unfold rs rdy fly
  have hdut : ∀ c' : Dev nD, (0 : Dev nD) ∈ dutK c' (.hr d (par h)) (h / 2) := fun c' => by
    show _ ∈ (if 2 * (h / 2) + (par h).val < 7 then {(0 : Dev nD)} else ∅)
    rw [two_par, if_pos hh]; exact Finset.mem_singleton_self _
  refine BIBase.Entails.trans ?_ (step_send m K c n (ks := .hs d (par h)) (kr := .hr d (par h)) (r := h / 2) (by decide) hn hsrc' hdst' hsS hsR
    (N := NW) (wslot_credit d (sl h)) rfl rfl rfl (hdut c) (hdut (nbr d c)) fullShare.right (wpart m (org d (nbr d c) h) d) (backAt d (nbr d c) h)
    (by show _ ⊢ srcAt m d c (2 * (h / 2) + (par h).val); rw [two_par, srcAt_eq m d c hh])
    (by show _ ⊢ iprop(landAt m d (nbr d c) (2 * (h / 2) + (par h).val) ∗ backAt d (nbr d c) (2 * (h / 2) + (par h).val)); rw [two_par]; exact .rfl)
    ((pays c).drop (i + 1)) ((sends c).drop (j + 1)) _ _)
  iintro ⟨HE, H1, H2, H3, ⟨H4, H5⟩, H6⟩
  isplitl [HE]; · iexact HE
  isplitl [H1]; · iexact H1
  isplitl [H2]; · iexact H2
  isplitl [H5]; · iexact H5
  isplitl [H3]; · iexact H3
  isplitl [H4]; · iexact H4
  iexact H6

theorem whalf_credit (d : Bool) : (whalf d).view.dmaCredit = NW := by cases d <;> rfl
theorem srcM_credit (d : Bool) (h : ℕ) : (srcM d h).view.dmaCredit = NW := by
  cases h with
  | zero => exact whalf_credit d
  | succ h => exact wslot_credit d (sl h)
theorem xblk_credit (t : Dev nD) : (xblk t).view.dmaCredit = NX := rfl

theorem dut_hs (c : Dev nD) (d : Bool) {h : ℕ} (hh : h < 7) : dutK c (.hs d (par h)) (h / 2) = {0} := by
  show (if 2 * (h / 2) + (par h).val < 7 then {(0 : Dev nD)} else ∅) = _
  rw [two_par, if_pos hh]
theorem dut_hr (c : Dev nD) (d : Bool) {h : ℕ} (hh : h < 7) : dutK c (.hr d (par h)) (h / 2) = {0} := dut_hs c d hh

/-- The wait for hop h of direction d to have been read out. -/
theorem st_sent (c : Dev nD) (d : Bool) {h : ℕ} (hh : h < 7) {sp : Space} {s : Shape} {e : EltTy} {src : Memref sig .tc sp s e} {dst : Memref sig .tc .vmem S512x4096 .i8}
    {sm : DmaSem sig} {h1 h2} (hsm : loc (.hs d (par h)) = .dma sm) (hu : dst = srcM d h)
    {α : Type} {Kt : α → sProp 𝕄} {kk : PUnit → Prog (TpuEff nD τ sig (Elt F) Λ₀ .tc) α}
    {i j v n : ℕ} (hok : WOK c (.hs d (par h)) (h / 2) i n) :
    iprop(Env m K ∗ fly c d h ∗ St c i j v n)
      ⊢ iprop((iprop(srcAt m d c h ∗ rs c d (h + 2) ∗ St c i j v (n + 1))
            -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm src dst h1 h2) kk) Kt) := by
  have e : bigSep (dutK c (.hs d (par h)) (h / 2)) (payK m c (.hs d (par h)) (h / 2)) = srcAt m d c h := by
    rw [dut_hs c d hh, bigSep_singleton]
    show srcAt m d c (2 * (h / 2) + (par h).val) = _
    rw [two_par]
  have e2 : reached ER (cell c (.hs d (par h))) (h / 2 + 1) ⊢ (rs c d (h + 2) : sProp 𝕄) := by
    unfold rs; rw [par_add, show (h + 2) / 2 = h / 2 + 1 by omega]
  have H := st_wait_own m K c (k := .hs d (par h)) (r := h / 2) (w := .waitDma2 sm src dst h1 h2) hsm (wpE_waitDma2_eq 𝒱₀ (c : Thread nD τ) none Set.univ)
    (by subst hu; exact srcM_credit d h) (by rw [dut_hs c d hh]; exact (Nat.one_mul _).symm) (Kt := Kt) (kk := kk) (j := j) (v := v) hok
  rw [e] at H
  unfold fly
  iintro HH Hk
  iapply H $$ HH
  iintro ⟨HS, Hr, Hp⟩
  iapply Hk
  isplitl [Hp]; · iexact Hp
  isplitl [Hr]
  · iapply e2; iexact Hr
  iexact HS

/-- The wait for hop h of direction d to have landed. -/
theorem st_recv (c : Dev nD) (d : Bool) {h : ℕ} (hh : h < 7) {sp : Space} {s : Shape} {e : EltTy} {src : Memref sig .tc sp s e} {dst : Memref sig .tc .vmem S512x4096 .i8}
    {sm : DmaSem sig} {h1 h2} (hsm : loc (.hr d (par h)) = .dma sm) (hu : dst = wslot d (sl h))
    {α : Type} {Kt : α → sProp 𝕄} {kk : PUnit → Prog (TpuEff nD τ sig (Elt F) Λ₀ .tc) α}
    {i j v n : ℕ} (hok : WOK c (.hr d (par h)) (h / 2) i n) (hv : (waitsFor c)[v]? = some (.hr d (par h), h / 2)) :
    iprop(Env m K ∗ St c i j v n)
      ⊢ iprop((iprop(landAt m d c h ∗ rdy c (!d) (h + 1) ∗ St c i j (v + 1) (n + 1))
            -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm src dst h1 h2) kk) Kt) := by
  have e : bigSep (dutK c (.hr d (par h)) (h / 2)) (payK m c (.hr d (par h)) (h / 2)) = iprop(landAt m d c h ∗ backAt d c h) := by
    rw [dut_hr c d hh, bigSep_singleton]
    show iprop(landAt m d c (2 * (h / 2) + (par h).val) ∗ backAt d c (2 * (h / 2) + (par h).val)) = _
    rw [two_par]
  have H := st_wait m K c (k := .hr d (par h)) (r := h / 2) (w := .waitDma2 sm src dst h1 h2) hsm (wpE_waitDma2_eq 𝒱₀ (c : Thread nD τ) none Set.univ)
    (by subst hu; exact wslot_credit d (sl h)) (by rw [dut_hr c d hh]; exact (Nat.one_mul _).symm) (Kt := Kt) (kk := kk) (j := j) hok hv
  rw [e] at H
  have e2 : reached ER (cell c (.hr d (par h))) (h / 2 + 1) ⊢ (backAt (!d) (nbr (!d) c) (h + 1) : sProp 𝕄) := by
    unfold backAt
    rw [if_neg (Nat.succ_ne_zero h), Bool.not_not, nbr_nbr d c, show h + 1 + 1 = h + 2 from rfl, par_add, show (h + 2) / 2 = h / 2 + 1 by omega]
  iintro ⟨#HE, HH⟩ Hk
  iapply H $$ [HH]
  · isplitr; · iexact HE
    iexact HH
  iintro ⟨HS, Hr, Hp, Hb⟩
  iapply Hk
  isplitl [Hp]; · iexact Hp
  isplitr [HS]
  · unfold rdy
    isplitl [Hb]
    · cases h with
      | zero => iapply (Env_reached m K (nbr (!d) c) (.hr (!d) (par 1))); iexact HE
      | succ h =>
        iapply (show backAt d c (h + 1) ⊢ (reached ER (cell (nbr (!d) c) (.hr (!d) (par (h + 1 + 1)))) ((h + 1 + 1) / 2) : sProp 𝕄) by
          unfold backAt; rw [if_neg (Nat.succ_ne_zero h)])
        iexact Hb
    · iapply e2; iexact Hr
  iexact HS

/-- The signal that slot s of direction d may be filled again: the slot is handed over. -/
theorem st_credit (c n : Dev nD) (d : Bool) (s : Fin 4) (hs : s.val < 3) (hn : n = nbr (!d) c) {sem : Sem sig} (hsem : loc (.cr d s) = .reg sem)
    {N : ℤ} (hN : N = 1) {α : Type} {Kt : α → sProp 𝕄} {kk : PUnit → Prog (TpuEff nD τ sig (Elt F) Λ₀ .tc) α}
    {i j v p : ℕ} (hp : (pays c)[i]? = some (crPE c d s)) :
    iprop(Env m K ∗ anyOf c (wslot d s) ∗ St c i j v p)
      ⊢ iprop((St c (i + 1) j v p -∗ wp frame (wpE (defs₀ (F := F)) 𝒱₀ (c : Thread nD τ) none) Set.univ (kk ⟨⟩) Kt)
          -∗ wp frame (wpE (defs₀ (F := F)) 𝒱₀ (c : Thread nD τ) none) Set.univ (.op (.semSignal (Dev.tc n : Thread nD τ) sem N) kk) Kt) := by
  unfold St
  rw [drop_head hp]
  refine BIBase.Entails.trans ?_ (step_signal m K c n (t := nbr (!d) c) (k := .cr d s) (p := 0) hn hsem
    (by show _ ∈ (if (0 = 0 ∧ s.val < 3) then {(0 : Dev nD)} else ∅); rw [if_pos ⟨rfl, hs⟩]; exact Finset.mem_singleton_self _) rfl hN
    ((pays c).drop (i + 1)) _ _ _)
  iintro ⟨HE, H1, H2⟩
  isplitl [HE]; · iexact HE
  isplitl [H1]
  · iapply (show anyOf c (wslot d s) ⊢ payK m (nbr (!d) c) (.cr d s) 0 0 by
      show _ ⊢ anyOf (nbr d (nbr (!d) c)) (wslot d s)
      rw [nbr_nbr])
    iexact H1
  iexact H2

/-- The wait for the signal that slot s of direction d of the neighbour may be filled again. -/
theorem st_free (c : Dev nD) (d : Bool) (s : Fin 4) (hs : s.val < 3) {sem : Sem sig} (hsm : loc (.cr d s) = .reg sem) {N : ℤ} (hN : N = 1)
    {α : Type} {Kt : α → sProp 𝕄} {kk : PUnit → Prog (TpuEff nD τ sig (Elt F) Λ₀ .tc) α}
    {i j v n : ℕ} (hok : WOK c (.cr d s) 0 i n) (hv : (waitsFor c)[v]? = some (.cr d s, 0)) :
    iprop(Env m K ∗ St c i j v n)
      ⊢ iprop((iprop(anyOf (nbr d c) (wslot d s) ∗ St c i j (v + 1) (n + 1))
            -∗ wp frame (wpE (defs₀ (F := F)) 𝒱₀ (c : Thread nD τ) none) Set.univ (kk ⟨⟩) Kt)
          -∗ wp frame (wpE (defs₀ (F := F)) 𝒱₀ (c : Thread nD τ) none) Set.univ (.op (.semWait sem N) kk) Kt) := by
  subst hN
  have hd : dutK c (.cr d s) 0 = {0} := by
    show (if (0 = 0 ∧ s.val < 3) then {(0 : Dev nD)} else ∅) = _
    rw [if_pos ⟨rfl, hs⟩]
  have e : bigSep (dutK c (.cr d s) 0) (payK m c (.cr d s) 0) = anyOf (nbr d c) (wslot d s) := by rw [hd, bigSep_singleton]; rfl
  have H := st_wait m K c (k := .cr d s) (r := 0) (k' := 1) (w := .semWait sem 1) hsm (fun KK => wpE_semWait_eq (k := 1) 𝒱₀ (c : Thread nD τ) none Set.univ KK)
    rfl (by rw [hd]; rfl) (Kt := Kt) (kk := kk) (j := j) hok hv
  rw [e] at H
  iintro HH Hk
  iapply H $$ HH
  iintro ⟨HS, Hr, Hp⟩
  iapply Hk
  isplitl [Hp]; · iexact Hp
  iexact HS

/-! ## The blocks of x -/

/-- The transfer of block t of x to device t. -/
theorem st_x (c n t : Dev nD) (ht : t ≠ c) (hn : n = t)
    {src dst : Memref sig .tc .vmem S512x512 .i8} (hsrc' : src = xblk t) (hdst' : dst = gslot c)
    {sS sR : DmaSem sig} (hsS : loc (.xs t) = .dma sS) (hsR : loc (.xr c) = .dma sR)
    {hsc : (dst : Memref sig (Dev.tc n : Thread nD τ).2.kind .vmem S512x512 .i8).view.ref.isScScratch = false}
    {hsrc : src.view.WordExact} {hdst : dst.view.WordExact}
    {hsem : DmaTarget.Typed .vmem (.dma sR) (.remote (Dev.tc n : Thread nD τ) dst (.dma sS) hsc)}
    {α : Type} {Kt : α → sProp 𝕄} {kk : PUnit → Prog (TpuEff nD τ sig (Elt F) Λ₀ .tc) α}
    {i j v p : ℕ} (hp : (pays c)[i]? = some (t, .xr c, 0, 0)) (hj : (sends c)[j]? = some (.xs t, 0)) :
    iprop(Env m K ∗ own c (xblk t) fullShare (xpart m c t) ∗ anyOf t (gslot c) ∗ St c i j v p)
      ⊢ iprop((iprop(crd c (.xs t, 0) ∗ St c (i + 1) (j + 1) v p) -∗ wp frame (wpE (defs₀ (F := F)) 𝒱₀ (c : Thread nD τ) none) Set.univ (kk ⟨⟩) Kt)
          -∗ wp frame (wpE (defs₀ (F := F)) 𝒱₀ (c : Thread nD τ) none) Set.univ
            (.op (.enqueueDma src (.remote (Dev.tc n : Thread nD τ) dst (.dma sS) hsc) (.dma sR) hsrc hdst hsem) kk) Kt) := by
  unfold St
  rw [drop_head hp, drop_head hj]
  refine BIBase.Entails.trans ?_ (step_send m K c n (ks := .xs t) (kr := .xr c) (r := 0) (by decide) hn hsrc' hdst' hsS hsR
    (N := NX) (gslot_credit c) rfl rfl rfl
    (by show _ ∈ (if 0 = 0 ∧ t ≠ c then {(0 : Dev nD)} else ∅); rw [if_pos ⟨rfl, ht⟩]; exact Finset.mem_singleton_self _)
    (by show _ ∈ (if 0 = 0 ∧ c ≠ t then {(0 : Dev nD)} else ∅); rw [if_pos ⟨rfl, ht.symm⟩]; exact Finset.mem_singleton_self _)
    fullShare (xpart m c t) iprop(emp) .rfl
    (by show _ ⊢ own t (gslot c) fullShare (xpart m c t); iintro ⟨H, -⟩; iexact H)
    ((pays c).drop (i + 1)) ((sends c).drop (j + 1)) _ _)
  iintro ⟨#HE, H1, H2, H3⟩
  isplitr; · iexact HE
  isplitl [H1]; · iexact H1
  isplitl [H2]; · iexact H2
  isplitr; · iempintro
  isplitr; · iapply (Env_reached m K c (.xs t)); iexact HE
  isplitr; · iapply (Env_reached m K t (.xr c)); iexact HE
  iexact H3

/-- The wait for the block from device t to have landed. -/
theorem st_xrecv (c t : Dev nD) (ht : t ≠ c) {sp : Space} {s : Shape} {e : EltTy} {src : Memref sig .tc sp s e} {dst : Memref sig .tc .vmem S512x512 .i8}
    {sm : DmaSem sig} {h1 h2} (hsm : loc (.xr t) = .dma sm) (hu : dst = gslot t)
    {α : Type} {Kt : α → sProp 𝕄} {kk : PUnit → Prog (TpuEff nD τ sig (Elt F) Λ₀ .tc) α}
    {i j v n : ℕ} (hok : WOK c (.xr t) 0 i n) (hv : (waitsFor c)[v]? = some (.xr t, 0)) :
    iprop(Env m K ∗ St c i j v n)
      ⊢ iprop((iprop(own c (gslot t) fullShare (xpart m t c) ∗ St c i j (v + 1) (n + 1))
            -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm src dst h1 h2) kk) Kt) := by
  have hd : dutK c (.xr t) 0 = {0} := by
    show (if 0 = 0 ∧ t ≠ c then {(0 : Dev nD)} else ∅) = _
    rw [if_pos ⟨rfl, ht⟩]
  have e : bigSep (dutK c (.xr t) 0) (payK m c (.xr t) 0) = own c (gslot t) fullShare (xpart m t c) := by rw [hd, bigSep_singleton]; rfl
  have H := st_wait m K c (k := .xr t) (r := 0) (w := .waitDma2 sm src dst h1 h2) hsm (wpE_waitDma2_eq 𝒱₀ (c : Thread nD τ) none Set.univ)
    (by subst hu; exact gslot_credit t) (by rw [hd]; exact (Nat.one_mul _).symm) (Kt := Kt) (kk := kk) (j := j) hok hv
  rw [e] at H
  iintro HH Hk
  iapply H $$ HH
  iintro ⟨HS, Hr, Hp⟩
  iapply Hk
  isplitl [Hp]; · iexact Hp
  iexact HS

/-- The wait for the transfer of block t of x to have been read out. -/
theorem st_xsent (c t : Dev nD) (ht : t ≠ c) {sp : Space} {s : Shape} {e : EltTy} {src : Memref sig .tc sp s e} {dst : Memref sig .tc .vmem S512x512 .i8}
    {sm : DmaSem sig} {h1 h2} (hsm : loc (.xs t) = .dma sm) (hu : dst = xblk t)
    {α : Type} {Kt : α → sProp 𝕄} {kk : PUnit → Prog (TpuEff nD τ sig (Elt F) Λ₀ .tc) α}
    {i j v n : ℕ} (hok : WOK c (.xs t) 0 i n) :
    iprop(Env m K ∗ crd c (.xs t, 0) ∗ St c i j v n)
      ⊢ iprop((iprop(own c (xblk t) fullShare (xpart m c t) ∗ St c i j v (n + 1))
            -∗ wp frame (wpE (defs₀ (F := F)) 𝒱₀ (c : Thread nD τ) none) Set.univ (kk ⟨⟩) Kt)
          -∗ wp frame (wpE (defs₀ (F := F)) 𝒱₀ (c : Thread nD τ) none) Set.univ (.op (.waitDma2 sm src dst h1 h2) kk) Kt) := by
  have hd : dutK c (.xs t) 0 = {0} := by
    show (if 0 = 0 ∧ t ≠ c then {(0 : Dev nD)} else ∅) = _
    rw [if_pos ⟨rfl, ht⟩]
  have e : bigSep (dutK c (.xs t) 0) (payK m c (.xs t) 0) = own c (xblk t) fullShare (xpart m c t) := by rw [hd, bigSep_singleton]; rfl
  have H := st_wait_own m K c (k := .xs t) (r := 0) (w := .waitDma2 sm src dst h1 h2) hsm (wpE_waitDma2_eq 𝒱₀ (c : Thread nD τ) none Set.univ)
    (by subst hu; exact xblk_credit t) (by rw [hd]; exact (Nat.one_mul _).symm) (Kt := Kt) (kk := kk) (j := j) (v := v) hok
  rw [e] at H
  iintro HH Hk
  iapply H $$ HH
  iintro ⟨HS, Hr, Hp⟩
  iapply Hk
  isplitl [Hp]; · iexact Hp
  iexact HS

/-! ## Loads and stores -/

/-- A view restated: the memory it covers at contents f holds what the view reads of f. -/
theorem own_of {sp : Space} {s : Shape} {e : EltTy} (c : Dev nD) (M : Memref sig .tc sp s e) (q : PosShare TreeShare) (f : Buf (Elt F) (M.view.loc (c : Thread nD τ))) :
    (M.view.loc (c : Thread nD τ) ↦[M.view.set]{q} f : sProp 𝕄) = own c M q (M.view.read (Elt F) f) :=
  pointsTo_rep (c : Thread nD τ) M f q

/-- What a load of a slot reads: the block under a leading unit axis. -/
def slab {s t : Shape} {e : EltTy} (h : s.Squeezes t) (X : t.Idx → Elt F e) : s.Idx → Elt F e := fun y => X (Shape.reshapeEquiv h.numel_eq.symm y)

theorem slab_cast {s t : Shape} {e : EltTy} (h : s.Squeezes t) (h' : s.ShapeCasts t) (X : t.Idx → Elt F e) : shapeCast t (slab h X) h' = X := by
  funext y
  show X (Shape.reshapeEquiv _ (Shape.reshapeEquiv _ y)) = X y
  rw [Shape.reshapeEquiv_reshapeEquiv, Shape.reshapeEquiv_self]

/-- A load of a part of a memref. -/
theorem st_load (c : Dev nD) {cs : CoreSpace} {s : Shape} {e : EltTy} (B : Memref sig .tc cs s e) {off off' : Fin s.rank → ℕ} {size : Fin s.rank → ℕ}
    {hb : ∀ a, off a + size a ≤ s.size a} {hb' : ∀ a, off' a + size a ≤ s.size a} (ho : off = off')
    {hl : B.view.LoadsAt (Rect.unit off size hb).toLoadRect}
    {α : Type} {Kt : α → sProp 𝕄} {kk : ((Rect.unit off size hb).shape.Idx → Elt F e) → Prog (TpuEff nD τ sig (Elt F) Λ₀ .tc) α}
    (q : PosShare TreeShare) (X : (Rect.unit off' size hb').shape.Idx → Elt F e) :
    own c (B.slice (Rect.unit off' size hb') (fun _ => rfl)) q X
      ⊢ iprop((own c (B.slice (Rect.unit off' size hb') (fun _ => rfl)) q X -∗ wp frame (wpE (defs₀ (F := F)) 𝒱₀ (c : Thread nD τ) none) Set.univ (kk X) Kt)
          -∗ wp frame (wpE (defs₀ (F := F)) 𝒱₀ (c : Thread nD τ) none) Set.univ (.op (.load B (Rect.unit off size hb).toLoadRect hl) kk) Kt) := by
  subst ho
  have H := wp_load_rect 𝒱₀ (c : Thread nD τ) none (Γ := .empty) Set.univ (defs := defs₀ (F := F)) (Q := Kt) (m := B) (r := Rect.unit off size hb) (hl := hl) (k := kk)
    (q := q) (f := (B.access (Rect.unit off size hb)).rep X) (Finset.Subset.refl _)
  rw [View.read_rep] at H
  exact H

/-- A load of a slot of a memref. -/
theorem st_load_slot (c : Dev nD) {cs : CoreSpace} {s : Shape} {e : EltTy} (B : Memref sig .tc cs s e) {off off' : Fin s.rank → ℕ} {size : Fin s.rank → ℕ}
    {hb : ∀ a, off a + size a ≤ s.size a} {hb' : ∀ a, off' a + size a ≤ s.size a} (ho : off = off')
    {hl : B.view.LoadsAt (Rect.unit off size hb).toLoadRect} {t : Shape} (hq : (Rect.unit off' size hb').shape.Squeezes t)
    {α : Type} {Kt : α → sProp 𝕄} {kk : ((Rect.unit off size hb).shape.Idx → Elt F e) → Prog (TpuEff nD τ sig (Elt F) Λ₀ .tc) α}
    (q : PosShare TreeShare) (X : t.Idx → Elt F e) :
    own c ((B.slice (Rect.unit off' size hb') (fun _ => rfl)).squeeze t hq) q X
      ⊢ iprop((own c ((B.slice (Rect.unit off' size hb') (fun _ => rfl)).squeeze t hq) q X -∗ wp frame (wpE (defs₀ (F := F)) 𝒱₀ (c : Thread nD τ) none) Set.univ (kk (slab hq X)) Kt)
          -∗ wp frame (wpE (defs₀ (F := F)) 𝒱₀ (c : Thread nD τ) none) Set.univ (.op (.load B (Rect.unit off size hb).toLoadRect hl) kk) Kt) := by
  subst ho
  have H := wp_load_rect 𝒱₀ (c : Thread nD τ) none (Γ := .empty) Set.univ (defs := defs₀ (F := F)) (Q := Kt) (m := B) (r := Rect.unit off size hb) (hl := hl) (k := kk)
    (q := q) (f := ((B.slice (Rect.unit off size hb) (fun _ => rfl)).squeeze t hq).view.rep X)
    (S := ((B.slice (Rect.unit off size hb) (fun _ => rfl)).squeeze t hq).view.set)
    (View.set_reshape (B.access (Rect.unit off size hb)) hq.numel_eq).ge
  have e : (B.access (Rect.unit off size hb)).read (Elt F) (((B.slice (Rect.unit off size hb) (fun _ => rfl)).squeeze t hq).view.rep X) = slab hq X := by
    have e' := View.read_rep (Val := Elt F) ((B.slice (Rect.unit off size hb) (fun _ => rfl)).squeeze t hq).view X
    funext y
    have := congrFun e' (Shape.reshapeEquiv hq.numel_eq.symm y)
    unfold slab
    rw [← this]
    show _ = (B.access (Rect.unit off size hb)).read (Elt F) _ (Shape.reshapeEquiv hq.numel_eq (Shape.reshapeEquiv hq.numel_eq.symm y))
    rw [Shape.reshapeEquiv_reshapeEquiv, Shape.reshapeEquiv_self]
  rw [e] at H
  exact H

/-- A store of the whole of a part of a memref. -/
theorem st_store (c : Dev nD) {cs : CoreSpace} {s : Shape} {e : EltTy} (B : Memref sig .tc cs s e) {off : Fin s.rank → ℕ} {size : Fin s.rank → ℕ}
    {hb : ∀ a, off a + size a ≤ s.size a} {Y : (Rect.unit off size hb).shape.Idx → Elt F e} {hx hm}
    {α : Type} {Kt : α → sProp 𝕄} {kk : PUnit → Prog (TpuEff nD τ sig (Elt F) Λ₀ .tc) α} (X : (Rect.unit off size hb).shape.Idx → Elt F e) :
    own c (B.slice (Rect.unit off size hb) (fun _ => rfl)) fullShare X
      ⊢ iprop((own c (B.slice (Rect.unit off size hb) (fun _ => rfl)) fullShare Y -∗ wp frame (wpE (defs₀ (F := F)) 𝒱₀ (c : Thread nD τ) none) Set.univ (kk ⟨⟩) Kt)
          -∗ wp frame (wpE (defs₀ (F := F)) 𝒱₀ (c : Thread nD τ) none) Set.univ (.op (.store B (Rect.unit off size hb) Y Finset.univ hx hm) kk) Kt) := by
  have H := wp_store 𝒱₀ (c : Thread nD τ) none (Γ := .empty) Set.univ (defs := defs₀ (F := F)) (Q := Kt) (m := B) (r := Rect.unit off size hb) (hx := hx) (hm := hm) (w := Y) (k := kk)
    (S := (B.access (Rect.unit off size hb)).set) (f := (B.access (Rect.unit off size hb)).rep X) (View.setOn_subset_set _ _)
  refine BIBase.Entails.trans H (wand_mono_left ?_)
  unfold own
  iintro Hk HO
  iapply Hk
  iapply (pointsTo_rep_of_read (c : Thread nD τ) (B.slice (Rect.unit off size hb) (fun _ => rfl)) _ fullShare Y (View.read_write_univ _ _))
  iexact HO

end Cert.RingProof
-- ==== Proof.Views.lean ====
/-
# The views of the program, and what a device does with the memory it holds

The views a device slices out of its buffers are the blocks, halves and slots of the protocol; its loads and stores go
through them. With them the shares of a slot that is sent on, and what the barrier hands over.
-/
module

public import proofs.«01_k».proof.Proof.Moves

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-- A program run by device c. -/
abbrev run {α : Type} (c : Dev nD) (p : Prog (TpuEff nD τ sig (Elt F) Λ₀ .tc) α) (Kt : α → sProp 𝕄) : sProp 𝕄 :=
  wp frame (wpE (defs₀ (F := F)) 𝒱₀ (c : Thread nD τ) none) Set.univ p Kt

/-- A finished program. -/
theorem run_ret {α : Type} (c : Dev nD) (a : α) (Kt : α → sProp 𝕄) : Kt a ⊢ run c (.ret a) Kt := by
  unfold run
  rw [wp_ret]
  iintro H
  imodintro
  iexact H

/-! ## The views of the program are those of the protocol -/

theorem xblk_of {off : Fin 2 → ℕ} {hb : ∀ a, off a + S512x512.size a ≤ S4096x512.size a} (t : Dev nD) (h : off = ![512 * t.val, 0]) :
    xM.slice (Rect.unit (s := S4096x512) off S512x512.size hb) (fun _ => rfl) = xblk t := by subst h; rfl
theorem gslot_of {off : Fin 3 → ℕ} {hb : ∀ a, off a + S1x512x512.size a ≤ S8x512x512.size a} (t : Dev nD) (h : off = ![t.val, 0, 0]) :
    (gM.slice (Rect.unit (s := S8x512x512) off S1x512x512.size hb) (fun _ => rfl)).squeeze S512x512 squeezes_S1x512x512_S512x512 = gslot t := by subst h; rfl
theorem loc_xs {off : Fin 1 → ℕ} {hb : ∀ a, off a + S1.size a ≤ S8.size a} (t : Dev nD) (h : off = ![t.val]) :
    loc (.xs t) = .dma ((cc0_scratch3.slice (Rect.unit (s := S8) off S1.size hb)).squeeze S_ squeezes_S1_S_).sem := by subst h; revert t; decide +kernel
theorem loc_xr {off : Fin 1 → ℕ} {hb : ∀ a, off a + S1.size a ≤ S8.size a} (t : Dev nD) (h : off = ![t.val]) :
    loc (.xr t) = .dma ((cc0_scratch4.slice (Rect.unit (s := S8) off S1.size hb)).squeeze S_ squeezes_S1_S_).sem := by subst h; revert t; decide +kernel

/-- The half of the result that direction d fills, the whole of it, the whole of the staged weights, and the two scales. -/
def ohalf (d : Bool) : Memref sig .tc .vmem S512x4096 .f32 :=
  oM.slice (Rect.unit (s := S512x8192) ![0, col0 d] S512x4096.size (whalf_inb d)) (fun _ => rfl)
def oW : Memref sig .tc .vmem S512x8192 .f32 :=
  oM.slice (Rect.unit (s := S512x8192) ![0, 0] S512x8192.size inb_S512x8192_S512x8192_0_0) (fun _ => rfl)
def wW : Memref sig .tc .vmem S512x8192 .i8 :=
  wM.slice (Rect.unit (s := S512x8192) ![0, 0] S512x8192.size inb_S512x8192_S512x8192_0_0) (fun _ => rfl)
def aW : Memref sig .tc .smem S1 .f32 := aM.slice (Rect.unit (s := S1) ![0] S1.size inb_S1_S1_0) (fun _ => rfl)
def bW : Memref sig .tc .smem S1 .f32 := bM.slice (Rect.unit (s := S1) ![0] S1.size inb_S1_S1_0) (fun _ => rfl)

/-! ## Loads and stores of the memory of the protocol -/

/-- A load of a slot of a ring buffer. -/
theorem ld_w (c : Dev nD) (d : Bool) (s : Fin 4) {off : Fin 3 → ℕ} {hb : ∀ a, off a + S1x512x4096.size a ≤ S4x512x4096.size a} (ho : off = ![s.val, 0, 0]) {hl}
    {α : Type} {Kt : α → sProp 𝕄} {kk : (S1x512x4096.Idx → Elt F .i8) → Prog (TpuEff nD τ sig (Elt F) Λ₀ .tc) α} (q : PosShare TreeShare) (X : S512x4096.Idx → Elt F .i8) :
    own c (wslot d s) q X ⊢ iprop((own c (wslot d s) q X -∗ run c (kk (slab squeezes_S1x512x4096_S512x4096 X)) Kt)
      -∗ run c (.op (.load (ringM d) (Rect.unit (s := S4x512x4096) off S1x512x4096.size hb).toLoadRect hl) kk) Kt) :=
  st_load_slot c (ringM d) ho squeezes_S1x512x4096_S512x4096 (hb' := wslot_inb s) q X

/-- A load of a gathered block of x. -/
theorem ld_g (c t : Dev nD) {off : Fin 3 → ℕ} {hb : ∀ a, off a + S1x512x512.size a ≤ S8x512x512.size a} (ho : off = ![t.val, 0, 0]) {hl}
    {α : Type} {Kt : α → sProp 𝕄} {kk : (S1x512x512.Idx → Elt F .i8) → Prog (TpuEff nD τ sig (Elt F) Λ₀ .tc) α} (q : PosShare TreeShare) (X : S512x512.Idx → Elt F .i8) :
    own c (gslot t) q X ⊢ iprop((own c (gslot t) q X -∗ run c (kk (slab squeezes_S1x512x512_S512x512 X)) Kt)
      -∗ run c (.op (.load gM (Rect.unit (s := S8x512x512) off S1x512x512.size hb).toLoadRect hl) kk) Kt) :=
  st_load_slot c gM ho squeezes_S1x512x512_S512x512 (hb' := gslot_inb t) q X

/-- A load of a block of the staged x. -/
theorem ld_x (c t : Dev nD) {off : Fin 2 → ℕ} {hb : ∀ a, off a + S512x512.size a ≤ S4096x512.size a} (ho : off = ![512 * t.val, 0]) {hl}
    {α : Type} {Kt : α → sProp 𝕄} {kk : (S512x512.Idx → Elt F .i8) → Prog (TpuEff nD τ sig (Elt F) Λ₀ .tc) α} (q : PosShare TreeShare) (X : S512x512.Idx → Elt F .i8) :
    own c (xblk t) q X ⊢ iprop((own c (xblk t) q X -∗ run c (kk X) Kt)
      -∗ run c (.op (.load xM (Rect.unit (s := S4096x512) off S512x512.size hb).toLoadRect hl) kk) Kt) :=
  st_load c xM ho (hb' := xblk_inb t) q X

/-- A load of the whole of the staged weights. -/
theorem ld_wW (c : Dev nD) {hl} {α : Type} {Kt : α → sProp 𝕄} {kk : (S512x8192.Idx → Elt F .i8) → Prog (TpuEff nD τ sig (Elt F) Λ₀ .tc) α}
    (q : PosShare TreeShare) (X : S512x8192.Idx → Elt F .i8) :
    own c wW q X ⊢ iprop((own c wW q X -∗ run c (kk X) Kt)
      -∗ run c (.op (.load wM (Rect.unit (s := S512x8192) ![0, 0] S512x8192.size inb_S512x8192_S512x8192_0_0).toLoadRect hl) kk) Kt) :=
  st_load c wM rfl q X

/-- A load of the whole of the result, and a store of it. -/
theorem ld_oW (c : Dev nD) {hl} {α : Type} {Kt : α → sProp 𝕄} {kk : (S512x8192.Idx → Elt F .f32) → Prog (TpuEff nD τ sig (Elt F) Λ₀ .tc) α}
    (q : PosShare TreeShare) (X : S512x8192.Idx → Elt F .f32) :
    own c oW q X ⊢ iprop((own c oW q X -∗ run c (kk X) Kt)
      -∗ run c (.op (.load oM (Rect.unit (s := S512x8192) ![0, 0] S512x8192.size inb_S512x8192_S512x8192_0_0).toLoadRect hl) kk) Kt) :=
  st_load c oM rfl q X
theorem wr_oW (c : Dev nD) {Y : S512x8192.Idx → Elt F .f32} {hx hm} {α : Type} {Kt : α → sProp 𝕄} {kk : PUnit → Prog (TpuEff nD τ sig (Elt F) Λ₀ .tc) α}
    (X : S512x8192.Idx → Elt F .f32) :
    own c oW fullShare X ⊢ iprop((own c oW fullShare Y -∗ run c (kk ⟨⟩) Kt)
      -∗ run c (.op (.store oM (Rect.unit (s := S512x8192) ![0, 0] S512x8192.size inb_S512x8192_S512x8192_0_0) Y Finset.univ hx hm) kk) Kt) :=
  st_store c oM X

/-- A load of a half of the result, and a store of it. -/
theorem ld_o (c : Dev nD) (d : Bool) {hl} {α : Type} {Kt : α → sProp 𝕄} {kk : (S512x4096.Idx → Elt F .f32) → Prog (TpuEff nD τ sig (Elt F) Λ₀ .tc) α}
    (q : PosShare TreeShare) (X : S512x4096.Idx → Elt F .f32) :
    own c (ohalf d) q X ⊢ iprop((own c (ohalf d) q X -∗ run c (kk X) Kt)
      -∗ run c (.op (.load oM (Rect.unit (s := S512x8192) ![0, col0 d] S512x4096.size (whalf_inb d)).toLoadRect hl) kk) Kt) :=
  st_load c oM rfl q X
theorem wr_o (c : Dev nD) (d : Bool) {Y : S512x4096.Idx → Elt F .f32} {hx hm} {α : Type} {Kt : α → sProp 𝕄} {kk : PUnit → Prog (TpuEff nD τ sig (Elt F) Λ₀ .tc) α}
    (X : S512x4096.Idx → Elt F .f32) :
    own c (ohalf d) fullShare X ⊢ iprop((own c (ohalf d) fullShare Y -∗ run c (kk ⟨⟩) Kt)
      -∗ run c (.op (.store oM (Rect.unit (s := S512x8192) ![0, col0 d] S512x4096.size (whalf_inb d)) Y Finset.univ hx hm) kk) Kt) :=
  st_store c oM X

/-- A load of a scale. -/
theorem ld_a (c : Dev nD) {hl} {α : Type} {Kt : α → sProp 𝕄} {kk : (S1.Idx → Elt F .f32) → Prog (TpuEff nD τ sig (Elt F) Λ₀ .tc) α}
    (q : PosShare TreeShare) (X : S1.Idx → Elt F .f32) :
    own c aW q X ⊢ iprop((own c aW q X -∗ run c (kk X) Kt)
      -∗ run c (.op (.load aM (Rect.unit (s := S1) ![0] S1.size inb_S1_S1_0).toLoadRect hl) kk) Kt) :=
  st_load c aM rfl q X
theorem ld_b (c : Dev nD) {hl} {α : Type} {Kt : α → sProp 𝕄} {kk : (S1.Idx → Elt F .f32) → Prog (TpuEff nD τ sig (Elt F) Λ₀ .tc) α}
    (q : PosShare TreeShare) (X : S1.Idx → Elt F .f32) :
    own c bW q X ⊢ iprop((own c bW q X -∗ run c (kk X) Kt)
      -∗ run c (.op (.load bM (Rect.unit (s := S1) ![0] S1.size inb_S1_S1_0).toLoadRect hl) kk) Kt) :=
  st_load c bM rfl q X

/-! ## What a device keeps of a slot it sends on -/

/-- The share of the slot of hop h that a device keeps while the next hop reads it. -/
def keepAt (d : Bool) (c : Dev nD) (h : ℕ) : sProp 𝕄 := own c (wslot d (sl h)) fullShare.left (wpart m (org d c h) d)

theorem ld_k (c : Dev nD) (d : Bool) (h : ℕ) {off : Fin 3 → ℕ} {hb : ∀ a, off a + S1x512x4096.size a ≤ S4x512x4096.size a} (ho : off = ![(sl h).val, 0, 0]) {hl}
    {α : Type} {Kt : α → sProp 𝕄} {kk : (S1x512x4096.Idx → Elt F .i8) → Prog (TpuEff nD τ sig (Elt F) Λ₀ .tc) α} :
    keepAt m d c h ⊢ iprop((keepAt m d c h -∗ run c (kk (slab squeezes_S1x512x4096_S512x4096 (wpart m (org d c h) d))) Kt)
      -∗ run c (.op (.load (ringM d) (Rect.unit (s := S4x512x4096) off S1x512x4096.size hb).toLoadRect hl) kk) Kt) :=
  ld_w c d (sl h) ho fullShare.left (wpart m (org d c h) d)

theorem own_halves {sp : Space} {s : Shape} {e : EltTy} (c : Dev nD) (M : Memref sig .tc sp s e) (X : s.Idx → Elt F e) :
    (own c M fullShare X : sProp 𝕄) ⊣⊢ iprop(own c M fullShare.left X ∗ own c M fullShare.right X) :=
  pointsTo_share (PosShare.mem_left_op_right fullShare)

theorem land_src (d : Bool) (c : Dev nD) {h : ℕ} : srcAt m d c (h + 1) = own c (wslot d (sl h)) fullShare.right (wpart m (org d c h) d) := by
  unfold srcAt
  rw [if_neg (Nat.succ_ne_zero h), show h + 1 + 3 = h + 4 from rfl, sl_add, Nat.add_sub_cancel]

theorem land_lend (d : Bool) (c : Dev nD) (h : ℕ) : landAt m d c h ⊢ iprop(keepAt m d c h ∗ srcAt m d c (h + 1)) := by
  rw [land_src]; exact (own_halves c _ _).1
theorem land_back (d : Bool) (c : Dev nD) (h : ℕ) : iprop(keepAt m d c h ∗ srcAt m d c (h + 1)) ⊢ landAt m d c h := by
  rw [land_src]; exact (own_halves c _ _).2

theorem own_any {sp : Space} {s : Shape} {e : EltTy} (c : Dev nD) (M : Memref sig .tc sp s e) (X : s.Idx → Elt F e) :
    (own c M fullShare X : sProp 𝕄) ⊢ anyOf c M := by
  unfold own anyOf; iintro H; iexists _; iexact H
theorem land_any (d : Bool) (c : Dev nD) (h : ℕ) : landAt m d c h ⊢ anyOf c (wslot d (sl h)) := own_any c _ _

/-! ## The barrier -/

/-- What device c hands over at the barrier to the device j places on. -/
theorem bar_give (c : Dev nD) (j : Fin 8) (h1 : j ≠ 0) (h2 : j ≠ 1) (h3 : j ≠ 7) : (anyOf c (gslot (sh j.val c)) : sProp 𝕄) ⊢ payK m (sh j.val c) .bar 0 c := by
  show _ ⊢ iprop(anyOf c (gslot (sh j.val c)) ∗ (if c = nbr true (sh j.val c) then slots true c else iprop(emp))
      ∗ (if c = nbr false (sh j.val c) then slots false c else iprop(emp)))
  have e1 : c ≠ nbr true (sh j.val c) := by revert c j; decide +kernel
  have e2 : c ≠ nbr false (sh j.val c) := by revert c j; decide +kernel
  rw [if_neg e1, if_neg e2]
  iintro H
  isplitl [H]; · iexact H
  isplitr <;> iempintro
theorem bar_give_next (c : Dev nD) : iprop(anyOf c (gslot (sh 1 c)) ∗ slots false c) ⊢ (payK m (sh 1 c) .bar 0 c : sProp 𝕄) := by
  show _ ⊢ iprop(anyOf c (gslot (sh 1 c)) ∗ (if c = nbr true (sh 1 c) then slots true c else iprop(emp))
      ∗ (if c = nbr false (sh 1 c) then slots false c else iprop(emp)))
  have e1 : c ≠ nbr true (sh 1 c) := by revert c; decide +kernel
  have e2 : c = nbr false (sh 1 c) := by revert c; decide +kernel
  rw [if_neg e1, if_pos e2]
  iintro ⟨H, H2⟩
  isplitl [H]; · iexact H
  isplitr [H2]; · iempintro
  iexact H2
theorem bar_give_prev (c : Dev nD) : iprop(anyOf c (gslot (sh 7 c)) ∗ slots true c) ⊢ (payK m (sh 7 c) .bar 0 c : sProp 𝕄) := by
  show _ ⊢ iprop(anyOf c (gslot (sh 7 c)) ∗ (if c = nbr true (sh 7 c) then slots true c else iprop(emp))
      ∗ (if c = nbr false (sh 7 c) then slots false c else iprop(emp)))
  have e1 : c = nbr true (sh 7 c) := by revert c; decide +kernel
  have e2 : c ≠ nbr false (sh 7 c) := by revert c; decide +kernel
  rw [if_pos e1, if_neg e2]
  iintro ⟨H, H2⟩
  isplitl [H]; · iexact H
  isplitl [H2]; · iexact H2
  iempintro

/-- A device's slots one by one. -/
theorem slots_list (d : Bool) (c : Dev nD) : (slots d c : sProp 𝕄)
    = iprop(anyOf c (wslot d 0) ∗ anyOf c (wslot d 1) ∗ anyOf c (wslot d 2) ∗ anyOf c (wslot d 3)) := by
  unfold slots
  rw [bigSep_univ_eq_bigSepL [0, 1, 2, 3] (by decide) (by decide), bigSepL_cons_cons, bigSepL_cons_cons, bigSepL_cons_cons, bigSepL_singleton]
  rfl

theorem slots_out (d : Bool) (c : Dev nD) : (slots d c : sProp 𝕄)
    ⊢ iprop(anyOf c (wslot d 0) ∗ anyOf c (wslot d 1) ∗ anyOf c (wslot d 2) ∗ anyOf c (wslot d 3)) := by
  rw [slots_list]

theorem units_bar : unitsK .bar = 7 := by decide

/-- A device's signal at the barrier, with what it hands over. -/
theorem st_bar (c n : Dev nD) {t : Dev nD} (ht : c ≠ t) (hn : n = t) {sem : Sem sig} (hsem : loc .bar = .reg sem) {N : ℤ} (hN : N = 1)
    {α : Type} {Kt : α → sProp 𝕄} {kk : PUnit → Prog (TpuEff nD τ sig (Elt F) Λ₀ .tc) α}
    {i j v p : ℕ} (hp : (pays c)[i]? = some (t, .bar, 0, c)) :
    iprop(Env m K ∗ payK m t .bar 0 c ∗ St c i j v p)
      ⊢ iprop((St c (i + 1) j v p -∗ run c (kk ⟨⟩) Kt) -∗ run c (.op (.semSignal (Dev.tc n : Thread nD τ) sem N) kk) Kt) := by
  have hd : c ∈ dutK t .bar 0 := by
    show c ∈ (if (0 : ℕ) = 0 then Finset.univ.erase t else ∅)
    rw [if_pos rfl]; exact Finset.mem_erase.mpr ⟨ht, Finset.mem_univ _⟩
  unfold St
  rw [drop_head hp]
  exact step_signal m K c n hn hsem hd rfl hN _ _ _ _

/-- The wait at the barrier: every device's own slot of the gathered x, and the slots of the two neighbours. -/
theorem st_barwait (c : Dev nD) {sem : Sem sig} (hsm : loc .bar = .reg sem) {N : ℤ} (hN : N = 7)
    {α : Type} {Kt : α → sProp 𝕄} {kk : PUnit → Prog (TpuEff nD τ sig (Elt F) Λ₀ .tc) α}
    {i j v n : ℕ} (hok : WOK c .bar 0 i n) (hv : (waitsFor c)[v]? = some (.bar, 0)) :
    iprop(Env m K ∗ St c i j v n)
      ⊢ iprop((iprop((anyOf (sh 1 c) (gslot c) ∗ anyOf (sh 2 c) (gslot c) ∗ anyOf (sh 3 c) (gslot c) ∗ anyOf (sh 4 c) (gslot c)
                ∗ anyOf (sh 5 c) (gslot c) ∗ anyOf (sh 6 c) (gslot c) ∗ anyOf (sh 7 c) (gslot c))
              ∗ slots true (nbr true c) ∗ slots false (nbr false c) ∗ St c i j (v + 1) (n + 1)) -∗ run c (kk ⟨⟩) Kt)
          -∗ run c (.op (.semWait sem N) kk) Kt) := by
  subst hN
  have el : dutK c .bar 0 = List.toFinset [sh 1 c, sh 2 c, sh 3 c, sh 4 c, sh 5 c, sh 6 c, sh 7 c] := by clear hok hv; revert c; decide +kernel
  have en : List.Nodup [sh 1 c, sh 2 c, sh 3 c, sh 4 c, sh 5 c, sh 6 c, sh 7 c] := by clear hok hv el; revert c; decide +kernel
  have e : bigSep (dutK c .bar 0) (payK m c .bar 0) = (iprop(payK m c .bar 0 (sh 1 c) ∗ payK m c .bar 0 (sh 2 c) ∗ payK m c .bar 0 (sh 3 c)
      ∗ payK m c .bar 0 (sh 4 c) ∗ payK m c .bar 0 (sh 5 c) ∗ payK m c .bar 0 (sh 6 c) ∗ payK m c .bar 0 (sh 7 c)) : sProp 𝕄) :=
    (bigSep_eq_bigSepL_of_eq _ el en _).trans rfl
  have h1 : (payK m c .bar 0 (sh 1 c) : sProp 𝕄) ⊢ iprop(anyOf (sh 1 c) (gslot c) ∗ slots true (nbr true c)) := by
    show iprop(anyOf (sh 1 c) (gslot c) ∗ (if sh 1 c = nbr true c then slots true (sh 1 c) else iprop(emp)) ∗ _) ⊢ _
    rw [if_pos (show sh 1 c = nbr true c from rfl)]
    iintro ⟨H, H2, -⟩
    isplitl [H]; · iexact H
    iexact H2
  have h7 : (payK m c .bar 0 (sh 7 c) : sProp 𝕄) ⊢ iprop(anyOf (sh 7 c) (gslot c) ∗ slots false (nbr false c)) := by
    show iprop(anyOf (sh 7 c) (gslot c) ∗ _ ∗ (if sh 7 c = nbr false c then slots false (sh 7 c) else iprop(emp))) ⊢ _
    rw [if_pos (show sh 7 c = nbr false c from rfl)]
    iintro ⟨H, -, H2⟩
    isplitl [H]; · iexact H
    iexact H2
  have hp : ∀ p, (payK m c .bar 0 p : sProp 𝕄) ⊢ anyOf p (gslot c) := fun p => by
    show iprop(anyOf p (gslot c) ∗ _) ⊢ _
    iintro ⟨H, -⟩
    iexact H
  have H := st_wait m K c (k := .bar) (r := 0) (w := .semWait sem 7) hsm
    (k' := 7) (fun KK => wpE_semWait_eq (k := 7) 𝒱₀ (c : Thread nD τ) none Set.univ KK) units_bar.symm (by clear hok hv el en e h1 h7 hp; revert c; decide +kernel) (Kt := Kt) (kk := kk) (j := j) hok hv
  rw [e] at H
  iintro HH Hk
  iapply H $$ HH
  iintro ⟨HS, -, P1, P2, P3, P4, P5, P6, P7⟩
  iapply Hk
  ihave P1 := h1 $$ P1
  icases P1 with ⟨P1, Q1⟩
  ihave P7 := h7 $$ P7
  icases P7 with ⟨P7, Q7⟩
  isplitr [Q1 Q7 HS]
  · isplitl [P1]; · iexact P1
    isplitl [P2]; · iapply (hp _); iexact P2
    isplitl [P3]; · iapply (hp _); iexact P3
    isplitl [P4]; · iapply (hp _); iexact P4
    isplitl [P5]; · iapply (hp _); iexact P5
    isplitl [P6]; · iapply (hp _); iexact P6
    iexact P7
  isplitl [Q1]; · iexact Q1
  isplitl [Q7]; · iexact Q7
  iexact HS

/-! ## Where the printed offsets and device numbers point -/

theorem o1_1 (c : Dev nD) : k0_off1 c 1#32 = ![(sh 1 c).val] := by revert c; decide +kernel
theorem o1_2 (c : Dev nD) : k0_off1 c 2#32 = ![(sh 2 c).val] := by revert c; decide +kernel
theorem o1_3 (c : Dev nD) : k0_off1 c 3#32 = ![(sh 3 c).val] := by revert c; decide +kernel
theorem o1_4 (c : Dev nD) : k0_off1 c 4#32 = ![(sh 4 c).val] := by revert c; decide +kernel
theorem o1_5 (c : Dev nD) : k0_off1 c 5#32 = ![(sh 5 c).val] := by revert c; decide +kernel
theorem o1_6 (c : Dev nD) : k0_off1 c 6#32 = ![(sh 6 c).val] := by revert c; decide +kernel
theorem o1_7 (c : Dev nD) : k0_off1 c 7#32 = ![(sh 7 c).val] := by revert c; decide +kernel
theorem o2 (c : Dev nD) : k0_off2 c = ![c.val] := by revert c; decide +kernel
theorem o3 (c : Dev nD) : k0_off3 c = ![c.val, 0, 0] := by revert c; decide +kernel
theorem o4_1 (c : Dev nD) : k0_off4 c 1#32 = ![512 * (sh 1 c).val, 0] := by revert c; decide +kernel
theorem o4_2 (c : Dev nD) : k0_off4 c 2#32 = ![512 * (sh 2 c).val, 0] := by revert c; decide +kernel
theorem o4_3 (c : Dev nD) : k0_off4 c 3#32 = ![512 * (sh 3 c).val, 0] := by revert c; decide +kernel
theorem o4_4 (c : Dev nD) : k0_off4 c 4#32 = ![512 * (sh 4 c).val, 0] := by revert c; decide +kernel
theorem o4_5 (c : Dev nD) : k0_off4 c 5#32 = ![512 * (sh 5 c).val, 0] := by revert c; decide +kernel
theorem o4_6 (c : Dev nD) : k0_off4 c 6#32 = ![512 * (sh 6 c).val, 0] := by revert c; decide +kernel
theorem o4_7 (c : Dev nD) : k0_off4 c 7#32 = ![512 * (sh 7 c).val, 0] := by revert c; decide +kernel
theorem o5 (c : Dev nD) : k0_off5 c = ![512 * c.val, 0] := by revert c; decide +kernel
theorem o6_7 (c : Dev nD) : k0_off6 c 2#32 = ![(sh 7 c).val] := by revert c; decide +kernel
theorem o7_7 (c : Dev nD) : k0_off7 c 2#32 = ![(sh 7 c).val, 0, 0] := by revert c; decide +kernel
theorem o6_5 (c : Dev nD) : k0_off6 c 4#32 = ![(sh 5 c).val] := by revert c; decide +kernel
theorem o7_5 (c : Dev nD) : k0_off7 c 4#32 = ![(sh 5 c).val, 0, 0] := by revert c; decide +kernel
theorem o8_6 (c : Dev nD) : k0_off8 c 8#32 2#32 = ![(sh 6 c).val] := by revert c; decide +kernel
theorem o9_6 (c : Dev nD) : k0_off9 c 8#32 2#32 = ![(sh 6 c).val, 0, 0] := by revert c; decide +kernel
theorem o8_1 (c : Dev nD) : k0_off8 c 2#32 1#32 = ![(sh 1 c).val] := by revert c; decide +kernel
theorem o9_1 (c : Dev nD) : k0_off9 c 2#32 1#32 = ![(sh 1 c).val, 0, 0] := by revert c; decide +kernel
theorem o8_3 (c : Dev nD) : k0_off8 c 4#32 1#32 = ![(sh 3 c).val] := by revert c; decide +kernel
theorem o9_3 (c : Dev nD) : k0_off9 c 4#32 1#32 = ![(sh 3 c).val, 0, 0] := by revert c; decide +kernel
theorem o10_2 (c : Dev nD) : k0_off10 c 2#32 = ![(sh 2 c).val, 0, 0] := by revert c; decide +kernel
theorem o10_4 (c : Dev nD) : k0_off10 c 4#32 = ![(sh 4 c).val, 0, 0] := by revert c; decide +kernel
theorem o11_7 (c : Dev nD) : k0_off11 c 2#32 = ![(sh 7 c).val, 0, 0] := by revert c; decide +kernel
theorem o11_5 (c : Dev nD) : k0_off11 c 4#32 = ![(sh 5 c).val, 0, 0] := by revert c; decide +kernel
theorem o11_3 (c : Dev nD) : k0_off11 c 6#32 = ![(sh 3 c).val, 0, 0] := by revert c; decide +kernel
theorem o12_6 (c : Dev nD) : k0_off12 c 8#32 2#32 = ![(sh 6 c).val, 0, 0] := by revert c; decide +kernel
theorem o12_1 (c : Dev nD) : k0_off12 c 2#32 1#32 = ![(sh 1 c).val, 0, 0] := by revert c; decide +kernel
theorem o12_4 (c : Dev nD) : k0_off12 c 8#32 4#32 = ![(sh 4 c).val, 0, 0] := by revert c; decide +kernel
theorem o12_3 (c : Dev nD) : k0_off12 c 4#32 1#32 = ![(sh 3 c).val, 0, 0] := by revert c; decide +kernel
theorem o12_2 (c : Dev nD) : k0_off12 c 8#32 6#32 = ![(sh 2 c).val, 0, 0] := by revert c; decide +kernel
theorem o12_5 (c : Dev nD) : k0_off12 c 6#32 1#32 = ![(sh 5 c).val, 0, 0] := by revert c; decide +kernel
theorem o12_7 (c : Dev nD) : k0_off12 c 8#32 1#32 = ![(sh 7 c).val, 0, 0] := by revert c; decide +kernel
theorem o13_2 (c : Dev nD) : k0_off13 c 2#32 = ![(sh 2 c).val, 0, 0] := by revert c; decide +kernel
theorem o13_4 (c : Dev nD) : k0_off13 c 4#32 = ![(sh 4 c).val, 0, 0] := by revert c; decide +kernel
theorem o13_6 (c : Dev nD) : k0_off13 c 6#32 = ![(sh 6 c).val, 0, 0] := by revert c; decide +kernel
theorem o13_1 (c : Dev nD) : k0_off13 c 1#32 = ![(sh 1 c).val, 0, 0] := by revert c; decide +kernel
theorem dv1 (c : Dev nD) : (⟨k0_dev1 c, k0_dev1_lt c⟩ : Dev nD) = sh 1 c := by revert c; decide +kernel
theorem dv2 (c : Dev nD) : (⟨k0_dev2 c, k0_dev2_lt c⟩ : Dev nD) = sh 2 c := by revert c; decide +kernel
theorem dv3 (c : Dev nD) : (⟨k0_dev3 c, k0_dev3_lt c⟩ : Dev nD) = sh 3 c := by revert c; decide +kernel
theorem dv4 (c : Dev nD) : (⟨k0_dev4 c, k0_dev4_lt c⟩ : Dev nD) = sh 4 c := by revert c; decide +kernel
theorem dv5 (c : Dev nD) : (⟨k0_dev5 c, k0_dev5_lt c⟩ : Dev nD) = sh 5 c := by revert c; decide +kernel
theorem dv6 (c : Dev nD) : (⟨k0_dev6 c, k0_dev6_lt c⟩ : Dev nD) = sh 6 c := by revert c; decide +kernel
theorem dv7 (c : Dev nD) : (⟨k0_dev7 c, k0_dev7_lt c⟩ : Dev nD) = sh 7 c := by revert c; decide +kernel
theorem dv8 (c : Dev nD) : (⟨k0_dev8 c, k0_dev8_lt c⟩ : Dev nD) = nbr true c := by revert c; decide +kernel
theorem dv9 (c : Dev nD) : (⟨k0_dev9 c, k0_dev9_lt c⟩ : Dev nD) = nbr false c := by revert c; decide +kernel
theorem dv10 (c : Dev nD) : (⟨k0_dev10 c, k0_dev10_lt c⟩ : Dev nD) = sh 1 c := by revert c; decide +kernel
theorem dv11 (c : Dev nD) : (⟨k0_dev11 c, k0_dev11_lt c⟩ : Dev nD) = sh 2 c := by revert c; decide +kernel
theorem dv12 (c : Dev nD) : (⟨k0_dev12 c, k0_dev12_lt c⟩ : Dev nD) = sh 3 c := by revert c; decide +kernel
theorem dv13 (c : Dev nD) : (⟨k0_dev13 c, k0_dev13_lt c⟩ : Dev nD) = sh 4 c := by revert c; decide +kernel
theorem dv14 (c : Dev nD) : (⟨k0_dev14 c, k0_dev14_lt c⟩ : Dev nD) = sh 5 c := by revert c; decide +kernel
theorem dv15 (c : Dev nD) : (⟨k0_dev15 c, k0_dev15_lt c⟩ : Dev nD) = sh 6 c := by revert c; decide +kernel
theorem dv16 (c : Dev nD) : (⟨k0_dev16 c, k0_dev16_lt c⟩ : Dev nD) = sh 7 c := by revert c; decide +kernel
theorem dv17 (c : Dev nD) : (⟨k0_dev17 c, k0_dev17_lt c⟩ : Dev nD) = nbr true c := by revert c; decide +kernel
theorem dv18 (c : Dev nD) : (⟨k0_dev18 c, k0_dev18_lt c⟩ : Dev nD) = nbr false c := by revert c; decide +kernel
theorem dv19 (c : Dev nD) : (⟨k0_dev19 c, k0_dev19_lt c⟩ : Dev nD) = nbr true c := by revert c; decide +kernel
theorem dv20 (c : Dev nD) : (⟨k0_dev20 c, k0_dev20_lt c⟩ : Dev nD) = nbr false c := by revert c; decide +kernel
theorem dv21 (c : Dev nD) : (⟨k0_dev21 c, k0_dev21_lt c⟩ : Dev nD) = nbr (!true) c := by revert c; decide +kernel
theorem dv22 (c : Dev nD) : (⟨k0_dev22 c, k0_dev22_lt c⟩ : Dev nD) = nbr (!false) c := by revert c; decide +kernel
theorem dv23 (c : Dev nD) : (⟨k0_dev23 c, k0_dev23_lt c⟩ : Dev nD) = nbr (!true) c := by revert c; decide +kernel
theorem dv24 (c : Dev nD) : (⟨k0_dev24 c, k0_dev24_lt c⟩ : Dev nD) = nbr (!false) c := by revert c; decide +kernel
theorem dv25 (c : Dev nD) : (⟨k0_dev25 c, k0_dev25_lt c⟩ : Dev nD) = nbr true c := by revert c; decide +kernel
theorem dv26 (c : Dev nD) : (⟨k0_dev26 c, k0_dev26_lt c⟩ : Dev nD) = nbr false c := by revert c; decide +kernel
theorem dv27 (c : Dev nD) : (⟨k0_dev27 c, k0_dev27_lt c⟩ : Dev nD) = nbr true c := by revert c; decide +kernel
theorem dv28 (c : Dev nD) : (⟨k0_dev28 c, k0_dev28_lt c⟩ : Dev nD) = nbr false c := by revert c; decide +kernel
theorem dv29 (c : Dev nD) : (⟨k0_dev29 c, k0_dev29_lt c⟩ : Dev nD) = nbr (!true) c := by revert c; decide +kernel
theorem dv30 (c : Dev nD) : (⟨k0_dev30 c, k0_dev30_lt c⟩ : Dev nD) = nbr (!false) c := by revert c; decide +kernel
theorem dv31 (c : Dev nD) : (⟨k0_dev31 c, k0_dev31_lt c⟩ : Dev nD) = nbr true c := by revert c; decide +kernel
theorem dv32 (c : Dev nD) : (⟨k0_dev32 c, k0_dev32_lt c⟩ : Dev nD) = nbr false c := by revert c; decide +kernel
theorem dv33 (c : Dev nD) : (⟨k0_dev33 c, k0_dev33_lt c⟩ : Dev nD) = nbr true c := by revert c; decide +kernel
theorem dv34 (c : Dev nD) : (⟨k0_dev34 c, k0_dev34_lt c⟩ : Dev nD) = nbr false c := by revert c; decide +kernel
theorem ne_1 (c : Dev nD) : sh 1 c ≠ c := by revert c; decide +kernel
theorem ne_2 (c : Dev nD) : sh 2 c ≠ c := by revert c; decide +kernel
theorem ne_3 (c : Dev nD) : sh 3 c ≠ c := by revert c; decide +kernel
theorem ne_4 (c : Dev nD) : sh 4 c ≠ c := by revert c; decide +kernel
theorem ne_5 (c : Dev nD) : sh 5 c ≠ c := by revert c; decide +kernel
theorem ne_6 (c : Dev nD) : sh 6 c ≠ c := by revert c; decide +kernel
theorem ne_7 (c : Dev nD) : sh 7 c ≠ c := by revert c; decide +kernel

end Cert.RingProof
-- ==== Proof.Split.lean ====
/-
# The buffers of a device and their parts

The staged x is its eight row blocks, the gathered x its eight slots, a ring buffer its four slots, the staged weights
and the result their two halves. A device takes its buffers apart when the body starts and puts them together when
it ends.
-/
module

public import proofs.«01_k».proof.Proof.Views
public import Idealize.ShloMosaic.Lib.Ring

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-! ## The parts are apart and cover the buffer -/

/-- The elements of a row block of x, of a slot of the gathered x, and of a half of the columns. -/
def rowSet (t : Dev nD) : Finset S4096x512.Idx := (Rect.unit (s := S4096x512) ![512 * t.val, 0] S512x512.size (xblk_inb t)).set
def gSet (t : Dev nD) : Finset S8x512x512.Idx := (Rect.unit (s := S8x512x512) ![t.val, 0, 0] S1x512x512.size (gslot_inb t)).set
def halfSet (d : Bool) : Finset S512x8192.Idx := (Rect.unit (s := S512x8192) ![0, col0 d] S512x4096.size (whalf_inb d)).set

theorem xblk_set (t : Dev nD) : (xblk t).view.set = rowSet t := View.set_slice_whole _ _
theorem gslot_set (t : Dev nD) : (gslot t).view.set = gSet t := (View.set_reshape _ _).trans (View.set_slice_whole _ _)
theorem whalf_set (d : Bool) : (whalf d).view.set = halfSet d := View.set_slice_whole _ _
theorem ohalf_set (d : Bool) : (ohalf d).view.set = halfSet d := View.set_slice_whole _ _

theorem xblk_apart (t t' : Dev nD) (h : t ≠ t') : Disjoint (rowSet t) (rowSet t') :=
  Ring.lead_disjoint (s := S4096x512) (0 : Fin 2) 512 (fun t : Fin 8 => (![512 * t.val, 0] : Fin 2 → ℕ)) S512x512.size xblk_inb (fun t => rfl) rfl t t' h
theorem xblk_cover : Finset.univ.biUnion rowSet = Finset.univ :=
  (Ring.lead_cover (s := S4096x512) (0 : Fin 2) 512 (fun t : Fin 8 => (![512 * t.val, 0] : Fin 2 → ℕ)) S512x512.size xblk_inb (fun t => rfl)
      (fun t a ha => by fin_cases a <;> first | exact absurd rfl ha | rfl) rfl (fun a ha => by fin_cases a <;> first | exact absurd rfl ha | rfl) rfl)
theorem gslot_apart (t t' : Dev nD) (h : t ≠ t') : Disjoint (gSet t) (gSet t') :=
  Ring.lead_disjoint (s := S8x512x512) (0 : Fin 3) 1 (fun t : Fin 8 => (![t.val, 0, 0] : Fin 3 → ℕ)) S1x512x512.size gslot_inb (fun t => by simp) rfl t t' h
theorem gslot_cover : Finset.univ.biUnion gSet = Finset.univ :=
  (Ring.lead_cover (s := S8x512x512) (0 : Fin 3) 1 (fun t : Fin 8 => (![t.val, 0, 0] : Fin 3 → ℕ)) S1x512x512.size gslot_inb (fun t => by simp)
      (fun t a ha => by fin_cases a <;> first | exact absurd rfl ha | rfl) rfl (fun a ha => by fin_cases a <;> first | exact absurd rfl ha | rfl) rfl)

/-- The elements of a slot of a ring buffer. -/
def ringSet (s : Fin 4) : Finset S4x512x4096.Idx := (Rect.unit (s := S4x512x4096) ![s.val, 0, 0] S1x512x4096.size (wslot_inb s)).set
theorem ring_apart (s s' : Fin 4) (h : s ≠ s') : Disjoint (ringSet s) (ringSet s') :=
  Ring.lead_disjoint (s := S4x512x4096) (0 : Fin 3) 1 (fun t : Fin 4 => (![t.val, 0, 0] : Fin 3 → ℕ)) S1x512x4096.size wslot_inb (fun t => by simp) rfl s s' h
theorem ring_cover : Finset.univ.biUnion ringSet = Finset.univ :=
  Ring.lead_cover (s := S4x512x4096) (0 : Fin 3) 1 (fun t : Fin 4 => (![t.val, 0, 0] : Fin 3 → ℕ)) S1x512x4096.size wslot_inb (fun t => by simp)
    (fun t a ha => by fin_cases a <;> first | exact absurd rfl ha | rfl) rfl (fun a ha => by fin_cases a <;> first | exact absurd rfl ha | rfl) rfl
theorem fslot_set (s : Fin 4) : (wslot true s).view.set = ringSet s := (View.set_reshape _ _).trans (View.set_slice_whole _ _)
theorem hslot_set (s : Fin 4) : (wslot false s).view.set = ringSet s := (View.set_reshape _ _).trans (View.set_slice_whole _ _)

theorem mem_half (d : Bool) (i : S512x8192.Idx) : i ∈ halfSet d ↔ (d = true ↔ (i 1).val < 4096) := by
  unfold halfSet
  rw [Rect.mem_set_unit]
  have h1 : (i 1).val < 8192 := (i 1).isLt
  have h0 : (i 0).val < 512 := (i 0).isLt
  constructor
  · intro h
    have := h 1
    cases d
    · change 4096 ≤ (i 1).val ∧ (i 1).val < 4096 + 4096 at this
      simp; omega
    · change 0 ≤ (i 1).val ∧ (i 1).val < 0 + 4096 at this
      simp; omega
  · intro h a
    have ha : a = 0 ∨ a = 1 := by revert a; decide
    rcases ha with rfl | rfl
    · exact ⟨Nat.zero_le _, by show (i 0).val < 0 + 512; omega⟩
    · cases d
      · simp at h; exact ⟨h, by show (i 1).val < 4096 + 4096; omega⟩
      · simp at h; exact ⟨Nat.zero_le _, by show (i 1).val < 0 + 4096; omega⟩
theorem half_apart (d d' : Bool) (h : d ≠ d') : Disjoint (halfSet d) (halfSet d') := by
  rw [Finset.disjoint_left]
  intro i hi hi'
  rw [mem_half] at hi hi'
  cases d <;> cases d' <;> simp_all <;> omega
theorem half_cover : Finset.univ.biUnion halfSet = Finset.univ := by
  ext i
  simp only [Finset.mem_biUnion, Finset.mem_univ, true_and, iff_true]
  by_cases h : (i 1).val < 4096
  · exact ⟨true, (mem_half _ _).2 (by simp [h])⟩
  · exact ⟨false, (mem_half _ _).2 (by simp; omega)⟩

/-! ## The devices in the order one device meets them -/

theorem devs_from (c : Dev nD) : (Finset.univ : Finset (Dev nD)) = [c, sh 1 c, sh 2 c, sh 3 c, sh 4 c, sh 5 c, sh 6 c, sh 7 c].toFinset := by revert c; decide +kernel
theorem devs_nodup (c : Dev nD) : [c, sh 1 c, sh 2 c, sh 3 c, sh 4 c, sh 5 c, sh 6 c, sh 7 c].Nodup := by revert c; decide +kernel

theorem over_devs (c : Dev nD) (Φ : Dev nD → sProp 𝕄) :
    bigSep Finset.univ Φ = iprop(Φ c ∗ Φ (sh 1 c) ∗ Φ (sh 2 c) ∗ Φ (sh 3 c) ∗ Φ (sh 4 c) ∗ Φ (sh 5 c) ∗ Φ (sh 6 c) ∗ Φ (sh 7 c)) := by
  rw [bigSep_univ_eq_bigSepL _ (devs_from c) (devs_nodup c)]; rfl
theorem over_dirs (Φ : Bool → sProp 𝕄) : bigSep Finset.univ Φ = iprop(Φ true ∗ Φ false) := by
  rw [bigSep_univ_eq_bigSepL [true, false] (by decide) (by decide)]; rfl

/-! ## A buffer and its parts -/

theorem any_intro {sp : Space} {s : Shape} {e : EltTy} (c : Dev nD) (M : Memref sig .tc sp s e) (f : Buf (Elt F) (M.view.loc (c : Thread nD τ))) :
    (M.view.loc (c : Thread nD τ) ↦[M.view.set]{fullShare} f : sProp 𝕄) ⊢ anyOf c M := by
  unfold anyOf; iintro H; iexists f; iexact H

/-- The staged x and its row blocks. -/
theorem x_parts (c : Dev nD) : ((c : Thread nD τ).loc cc0_stg0_0 ↦{fullShare} xstg m c : sProp 𝕄)
    = bigSep Finset.univ fun t : Dev nD => own c (xblk t) fullShare (xpart m c t) :=
  (Ring.pointsTo_blocks (ℓ := (c : Thread nD τ).loc cc0_stg0_0) rowSet xblk_apart xblk_cover (xstg m c)).trans
    (bigSep_congr fun t _ => by
      have e := own_of c (xblk t) fullShare (xstg m c)
      rw [xblk_set] at e
      exact e)

/-- The gathered x, whatever is in it, is its slots, whatever is in them, -/
theorem g_apart (c : Dev nD) : iprop(∃ f, (c : Thread nD τ).loc cc0_scratch0 ↦{fullShare} f)
    ⊢ (bigSep Finset.univ fun t : Dev nD => anyOf c (gslot t) : sProp 𝕄) := by
  iintro ⟨%f, H⟩
  iapply (show ((c : Thread nD τ).loc cc0_scratch0 ↦{fullShare} f : sProp 𝕄) ⊢ bigSep Finset.univ fun t : Dev nD => anyOf c (gslot t) from by
    rw [Ring.pointsTo_blocks (ℓ := (c : Thread nD τ).loc cc0_scratch0) gSet gslot_apart gslot_cover f]
    refine bigSep_mono fun t _ => ?_
    have e := any_intro c (gslot t) f
    rw [gslot_set] at e
    exact e)
  iexact H
/-- and back. -/
theorem g_whole (c : Dev nD) : (bigSep Finset.univ fun t : Dev nD => anyOf c (gslot t) : sProp 𝕄)
    ⊢ iprop(∃ f, (c : Thread nD τ).loc cc0_scratch0 ↦{fullShare} f) :=
  have e (t : Dev nD) : anyOf c (gslot t) = (iprop(∃ f, (c : Thread nD τ).loc cc0_scratch0 ↦[gSet t]{fullShare} f) : sProp 𝕄) := by
    unfold anyOf; rw [gslot_set]; rfl
  (show (bigSep Finset.univ fun t : Dev nD => anyOf c (gslot t) : sProp 𝕄)
      ⊢ bigSep Finset.univ fun t : Dev nD => iprop(∃ f, (c : Thread nD τ).loc cc0_scratch0 ↦[gSet t]{fullShare} f) from
    BIBase.Entails.of_eq (bigSep_congr fun t _ => e t)).trans
  (Ring.pointsTo_blocks_join_exists (ℓ := (c : Thread nD τ).loc cc0_scratch0) gSet gslot_apart gslot_cover (fun _ => (0 : BitVec 8)))

/-- A ring buffer, whatever is in it, is its slots, whatever is in them, and back. -/
theorem f_apart (c : Dev nD) : iprop(∃ f, (c : Thread nD τ).loc cc0_scratch1 ↦{fullShare} f) ⊢ (slots true c : sProp 𝕄) := by
  iintro ⟨%f, H⟩
  iapply (show ((c : Thread nD τ).loc cc0_scratch1 ↦{fullShare} f : sProp 𝕄) ⊢ slots true c from by
    rw [Ring.pointsTo_blocks (ℓ := (c : Thread nD τ).loc cc0_scratch1) ringSet ring_apart ring_cover f]
    refine bigSep_mono fun s _ => ?_
    rw [← fslot_set s]
    exact any_intro c (wslot true s) f)
  iexact H
theorem h_apart (c : Dev nD) : iprop(∃ f, (c : Thread nD τ).loc cc0_scratch2 ↦{fullShare} f) ⊢ (slots false c : sProp 𝕄) := by
  iintro ⟨%f, H⟩
  iapply (show ((c : Thread nD τ).loc cc0_scratch2 ↦{fullShare} f : sProp 𝕄) ⊢ slots false c from by
    rw [Ring.pointsTo_blocks (ℓ := (c : Thread nD τ).loc cc0_scratch2) ringSet ring_apart ring_cover f]
    refine bigSep_mono fun s _ => ?_
    rw [← hslot_set s]
    exact any_intro c (wslot false s) f)
  iexact H
theorem f_whole (c : Dev nD) : (slots true c : sProp 𝕄) ⊢ iprop(∃ f, (c : Thread nD τ).loc cc0_scratch1 ↦{fullShare} f) :=
  have e (s : Fin 4) : anyOf c (wslot true s) = (iprop(∃ f, (c : Thread nD τ).loc cc0_scratch1 ↦[ringSet s]{fullShare} f) : sProp 𝕄) := by
    unfold anyOf; rw [fslot_set]; rfl
  (show (slots true c : sProp 𝕄) ⊢ bigSep Finset.univ fun s => iprop(∃ f, (c : Thread nD τ).loc cc0_scratch1 ↦[ringSet s]{fullShare} f) from
    BIBase.Entails.of_eq (bigSep_congr fun s _ => e s)).trans
  (Ring.pointsTo_blocks_join_exists (ℓ := (c : Thread nD τ).loc cc0_scratch1) ringSet ring_apart ring_cover (fun _ => (0 : BitVec 8)))
theorem h_whole (c : Dev nD) : (slots false c : sProp 𝕄) ⊢ iprop(∃ f, (c : Thread nD τ).loc cc0_scratch2 ↦{fullShare} f) :=
  have e (s : Fin 4) : anyOf c (wslot false s) = (iprop(∃ f, (c : Thread nD τ).loc cc0_scratch2 ↦[ringSet s]{fullShare} f) : sProp 𝕄) := by
    unfold anyOf; rw [hslot_set]; rfl
  (show (slots false c : sProp 𝕄) ⊢ bigSep Finset.univ fun s => iprop(∃ f, (c : Thread nD τ).loc cc0_scratch2 ↦[ringSet s]{fullShare} f) from
    BIBase.Entails.of_eq (bigSep_congr fun s _ => e s)).trans
  (Ring.pointsTo_blocks_join_exists (ℓ := (c : Thread nD τ).loc cc0_scratch2) ringSet ring_apart ring_cover (fun _ => (0 : BitVec 8)))

/-! ## Halves of the columns -/

/-- The half of a block's columns that direction d fills. -/
def cut {α : Type} (d : Bool) (X : S512x8192.Idx → α) : S512x4096.Idx → α :=
  fun j => X ((Rect.unit (s := S512x8192) ![0, col0 d] S512x4096.size (whalf_inb d)).emb j)

/-- The block that takes its halves from A. -/
def glue (B : S512x8192.Idx → Elt F .f32) (A : Bool → S512x4096.Idx → Elt F .f32) : S512x8192.Idx → Elt F .f32 :=
  (ohalf false).view.write (Elt F) ((ohalf true).view.write (Elt F) B (A true) Finset.univ) (A false) Finset.univ

theorem glue_read (B : S512x8192.Idx → Elt F .f32) (A : Bool → S512x4096.Idx → Elt F .f32) (d : Bool) : (ohalf d).view.read (Elt F) (glue B A) = A d := by
  cases d
  · exact View.read_write_univ _ _
  · refine (View.read_congr (g := (ohalf true).view.write (Elt F) B (A true) Finset.univ) fun i hi => ?_).trans (View.read_write_univ _ _)
    refine View.write_of_not_mem _ _ _ fun h => ?_
    have h' : i ∈ (ohalf false).view.set := View.setOn_subset_set _ _ h
    rw [ohalf_set] at hi h'
    exact Finset.disjoint_left.1 (half_apart true false (by decide)) hi h'
theorem cut_glue (B : S512x8192.Idx → Elt F .f32) (A : Bool → S512x4096.Idx → Elt F .f32) (d : Bool) : cut d (glue B A) = A d := glue_read B A d

theorem o_halves (c : Dev nD) (X : S512x8192.Idx → Elt F .f32) :
    ((c : Thread nD τ).loc cc0_stg4_0 ↦{fullShare} X : sProp 𝕄) = iprop(own c (ohalf true) fullShare (cut true X) ∗ own c (ohalf false) fullShare (cut false X)) := by
  rw [Ring.pointsTo_blocks (ℓ := (c : Thread nD τ).loc cc0_stg4_0) halfSet half_apart half_cover X, over_dirs]
  have e1 := own_of c (ohalf true) fullShare X
  have e2 := own_of c (ohalf false) fullShare X
  rw [ohalf_set] at e1 e2
  exact congrArg₂ (fun a b : sProp 𝕄 => iprop(a ∗ b)) e1 e2
theorem w_halves (c : Dev nD) (q : PosShare TreeShare) :
    ((c : Thread nD τ).loc cc0_stg1_0 ↦{q} wstg m c : sProp 𝕄) = iprop(own c (whalf true) q (wpart m c true) ∗ own c (whalf false) q (wpart m c false)) := by
  rw [Ring.pointsTo_blocks (ℓ := (c : Thread nD τ).loc cc0_stg1_0) halfSet half_apart half_cover (wstg m c), over_dirs]
  have e1 := own_of c (whalf true) q (wstg m c)
  have e2 := own_of c (whalf false) q (wstg m c)
  rw [whalf_set] at e1 e2
  exact congrArg₂ (fun a b : sProp 𝕄 => iprop(a ∗ b)) e1 e2

/-! ## Whole buffers -/

theorem full_rect {s : Shape} {off : Fin s.rank → ℕ} (inb : ∀ a, off a + s.size a ≤ s.size a) : (Rect.unit off s.size inb).set = Finset.univ := by
  refine Finset.eq_univ_of_forall fun i => Rect.mem_set_unit.2 fun a => ?_
  have := inb a
  have := (i a).isLt
  omega

theorem oW_eq (c : Dev nD) (q : PosShare TreeShare) (X : S512x8192.Idx → Elt F .f32) :
    (own c oW q X : sProp 𝕄) = ((c : Thread nD τ).loc cc0_stg4_0 ↦{q} X) := by
  have e : oW.view.set = Finset.univ := (View.set_slice_whole _ _).trans (full_rect (s := S512x8192) inb_S512x8192_S512x8192_0_0)
  have r : oW.view.read (Elt F) X = X := funext fun i => congrArg X (Rect.emb_unit_full (s := S512x8192) (off := ![0, 0]) inb_S512x8192_S512x8192_0_0 i)
  have := own_of (F := F) c oW q X
  rw [r, e] at this
  exact this.symm
theorem wW_eq (c : Dev nD) (q : PosShare TreeShare) (X : S512x8192.Idx → Elt F .i8) :
    (own c wW q X : sProp 𝕄) = ((c : Thread nD τ).loc cc0_stg1_0 ↦{q} X) := by
  have e : wW.view.set = Finset.univ := (View.set_slice_whole _ _).trans (full_rect (s := S512x8192) inb_S512x8192_S512x8192_0_0)
  have r : wW.view.read (Elt F) X = X := funext fun i => congrArg X (Rect.emb_unit_full (s := S512x8192) (off := ![0, 0]) inb_S512x8192_S512x8192_0_0 i)
  have := own_of (F := F) c wW q X
  rw [r, e] at this
  exact this.symm
theorem aW_eq (c : Dev nD) (X : S1.Idx → Elt F .f32) :
    (own c aW fullShare X : sProp 𝕄) = ((c : Thread nD τ).loc cc0_stg2_0 ↦{fullShare} X) := by
  have e : aW.view.set = Finset.univ := (View.set_slice_whole _ _).trans (full_rect (s := S1) inb_S1_S1_0)
  have r : aW.view.read (Elt F) X = X := funext fun i => congrArg X (Rect.emb_unit_full (s := S1) (off := ![0]) inb_S1_S1_0 i)
  have := own_of (F := F) c aW fullShare X
  rw [r, e] at this
  exact this.symm
theorem bW_eq (c : Dev nD) (X : S1.Idx → Elt F .f32) :
    (own c bW fullShare X : sProp 𝕄) = ((c : Thread nD τ).loc cc0_stg3_0 ↦{fullShare} X) := by
  have e : bW.view.set = Finset.univ := (View.set_slice_whole _ _).trans (full_rect (s := S1) inb_S1_S1_0)
  have r : bW.view.read (Elt F) X = X := funext fun i => congrArg X (Rect.emb_unit_full (s := S1) (off := ![0]) inb_S1_S1_0 i)
  have := own_of (F := F) c bW fullShare X
  rw [r, e] at this
  exact this.symm

/-- The result and its halves. -/
theorem oW_split (c : Dev nD) (X : S512x8192.Idx → Elt F .f32) :
    (own c oW fullShare X : sProp 𝕄) ⊢ iprop(own c (ohalf true) fullShare (cut true X) ∗ own c (ohalf false) fullShare (cut false X)) := by
  rw [oW_eq, o_halves]
theorem o_join (c : Dev nD) (B : S512x8192.Idx → Elt F .f32) (A : Bool → S512x4096.Idx → Elt F .f32) :
    iprop(own c (ohalf true) fullShare (A true) ∗ own c (ohalf false) fullShare (A false)) ⊢ ((c : Thread nD τ).loc cc0_stg4_0 ↦{fullShare} glue B A : sProp 𝕄) := by
  rw [o_halves c (glue B A), cut_glue, cut_glue]

/-- The staged weights: half a share of the whole, and the other half a share in halves for the first hop. -/
theorem w_lend (c : Dev nD) : ((c : Thread nD τ).loc cc0_stg1_0 ↦{fullShare} wstg m c : sProp 𝕄)
    ⊢ iprop(own c wW fullShare.left (wstg m c) ∗ srcAt m true c 0 ∗ srcAt m false c 0) := by
  rw [wW_eq, show srcAt m true c 0 = own c (whalf true) fullShare.right (wpart m c true) from rfl,
    show srcAt m false c 0 = own c (whalf false) fullShare.right (wpart m c false) from rfl, ← w_halves]
  exact (pointsTo_share (PosShare.mem_left_op_right fullShare)).1
theorem w_back (c : Dev nD) : iprop(own c wW fullShare.left (wstg m c) ∗ srcAt m true c 0 ∗ srcAt m false c 0)
    ⊢ ((c : Thread nD τ).loc cc0_stg1_0 ↦{fullShare} wstg m c : sProp 𝕄) := by
  rw [wW_eq, show srcAt m true c 0 = own c (whalf true) fullShare.right (wpart m c true) from rfl,
    show srcAt m false c 0 = own c (whalf false) fullShare.right (wpart m c false) from rfl, ← w_halves]
  exact (pointsTo_share (PosShare.mem_left_op_right fullShare)).2

/-- The slots of a direction when all hops are over. -/
theorem slots_end (d : Bool) (c : Dev nD) :
    iprop((keepAt m d c 3 ∗ srcAt m d c 4) ∗ (keepAt m d c 4 ∗ srcAt m d c 5) ∗ (keepAt m d c 5 ∗ srcAt m d c 6) ∗ (keepAt m d c 6 ∗ srcAt m d c 7))
      ⊢ (slots d c : sProp 𝕄) := by
  have e : (slots d c : sProp 𝕄) = iprop(anyOf c (wslot d (sl 3)) ∗ anyOf c (wslot d (sl 4)) ∗ anyOf c (wslot d (sl 5)) ∗ anyOf c (wslot d (sl 6))) := by
    unfold slots; rw [bigSep_univ_eq_bigSepL [sl 3, sl 4, sl 5, sl 6] (by decide) (by decide)]; rfl
  rw [e]
  have h (k : ℕ) : iprop(keepAt m d c k ∗ srcAt m d c (k + 1)) ⊢ (anyOf c (wslot d (sl k)) : sProp 𝕄) := (land_back m d c k).trans (land_any m d c k)
  exact BI.sep_mono (h 3) (BI.sep_mono (h 4) (BI.sep_mono (h 5) (h 6)))

end Cert.RingProof
-- ==== Proof.Parts1.lean ====
/-
# The parts of the kernel, up to the third hop

Each part of the printed kernel, run by one device: the memory and the protocol's pieces it uses, and what it leaves.
-/
module

public import proofs.«01_k».proof.Proof.Views

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-- Part 1 of the kernel: from what it uses to what it leaves. -/
theorem part1 (c : Dev nD) (Kt : (Σ' (d0 : Dev nD) (v2 : BitVec 32) (v5 : BitVec 32) (v7 : BitVec 32) (v8 : Sems sig S_) (v25 : BitVec 32), BitVec 32) → sProp 𝕄) :
    iprop(Env m K ∗ anyOf c (gslot (sh 1 c)) ∗ slots false c ∗ anyOf c (gslot (sh 2 c)) ∗ anyOf c (gslot (sh 3 c)) ∗ anyOf c (gslot (sh 4 c)) ∗ St c 0 0 0 0)
      ⊢ iprop((∀ u1 : BitVec 32, ∀ u2 : BitVec 32, ∀ u3 : BitVec 32, ∀ u4 : BitVec 32, ∀ u5 : BitVec 32, (iprop(St c 4 0 0 0) -∗ Kt ⟨c, u1, u2, u3, (SemArray.scalar (sig.barrier 0 rfl)), u4, u5⟩))
          -∗ run c (k0_part1 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10) Kt) := by
  rw [k0_part1_eq_skeleton]
  unfold k0_part1_skel
  simp only [semSignalWord, semWaitWord, Prog.lift, Prog.bind_op, Prog.bind_ret, Prog.pure_eq_ret, wp_deviceId]
  iintro ⟨#HE, M1, SLf, M2, M3, M4, HS⟩ Hk
  iapply (st_bar m K c _ (t := sh 1 c) (ne_1 c).symm (dv1 c) rfl rfl (i := 0) (j := 0) (v := 0) (p := 0) rfl) $$ [M1 SLf HS]
  · isplitr; · iexact HE
    isplitr [HS]
    · iapply (bar_give_next m c); isplitl [M1]; · iexact M1
      iexact SLf
    iexact HS
  iintro HS
  iapply (st_bar m K c _ (t := sh 2 c) (ne_2 c).symm (dv2 c) rfl rfl (i := 1) (j := 0) (v := 0) (p := 0) rfl) $$ [M2 HS]
  · isplitr; · iexact HE
    isplitr [HS]
    · iapply (bar_give m c 2 (by decide) (by decide) (by decide)); iexact M2
    iexact HS
  iintro HS
  iapply (st_bar m K c _ (t := sh 3 c) (ne_3 c).symm (dv3 c) rfl rfl (i := 2) (j := 0) (v := 0) (p := 0) rfl) $$ [M3 HS]
  · isplitr; · iexact HE
    isplitr [HS]
    · iapply (bar_give m c 3 (by decide) (by decide) (by decide)); iexact M3
    iexact HS
  iintro HS
  iapply (st_bar m K c _ (t := sh 4 c) (ne_4 c).symm (dv4 c) rfl rfl (i := 3) (j := 0) (v := 0) (p := 0) rfl) $$ [M4 HS]
  · isplitr; · iexact HE
    isplitr [HS]
    · iapply (bar_give m c 4 (by decide) (by decide) (by decide)); iexact M4
    iexact HS
  iintro HS
  iapply (run_ret c _ Kt)
  iapply Hk
  iexact HS

/-- Part 2 of the kernel: from what it uses to what it leaves. -/
theorem part2 (c : Dev nD) (v2 : BitVec 32) (v5 : BitVec 32) (v7 : BitVec 32) (v25 : BitVec 32) (c8_i32_21 : BitVec 32) (Kt : (PUnit) → sProp 𝕄) :
    iprop(Env m K ∗ anyOf c (gslot (sh 5 c)) ∗ anyOf c (gslot (sh 6 c)) ∗ anyOf c (gslot (sh 7 c)) ∗ slots true c ∗ srcAt m true c 0 ∗ St c 4 0 0 0)
      ⊢ iprop(((iprop(anyOf (sh 1 c) (gslot c) ∗ anyOf (sh 2 c) (gslot c) ∗ anyOf (sh 3 c) (gslot c) ∗ anyOf (sh 4 c) (gslot c) ∗ anyOf (sh 5 c) (gslot c) ∗ anyOf (sh 6 c) (gslot c) ∗ anyOf (sh 7 c) (gslot c) ∗ anyOf (nbr true c) (wslot true 1) ∗ anyOf (nbr true c) (wslot true 2) ∗ anyOf (nbr true c) (wslot true 3) ∗ anyOf (nbr false c) (wslot false 0) ∗ anyOf (nbr false c) (wslot false 1) ∗ anyOf (nbr false c) (wslot false 2) ∗ anyOf (nbr false c) (wslot false 3) ∗ fly c true 0 ∗ St c 8 1 1 1) -∗ Kt ⟨⟩))
          -∗ run c (k0_part2 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2 v5 v7 (SemArray.scalar (sig.barrier 0 rfl)) v25 c8_i32_21) Kt) := by
  rw [k0_part2_eq_skeleton]
  unfold k0_part2_skel
  simp only [semSignalWord, semWaitWord, Prog.lift, Prog.bind_op, Prog.bind_ret, Prog.pure_eq_ret]
  iintro ⟨#HE, M5, M6, M7, SLt, St0, HS⟩ Hk
  iapply (st_bar m K c _ (t := sh 5 c) (ne_5 c).symm (dv5 c) rfl rfl (i := 4) (j := 0) (v := 0) (p := 0) rfl) $$ [M5 HS]
  · isplitr; · iexact HE
    isplitr [HS]
    · iapply (bar_give m c 5 (by decide) (by decide) (by decide)); iexact M5
    iexact HS
  iintro HS
  iapply (st_bar m K c _ (t := sh 6 c) (ne_6 c).symm (dv6 c) rfl rfl (i := 5) (j := 0) (v := 0) (p := 0) rfl) $$ [M6 HS]
  · isplitr; · iexact HE
    isplitr [HS]
    · iapply (bar_give m c 6 (by decide) (by decide) (by decide)); iexact M6
    iexact HS
  iintro HS
  iapply (st_bar m K c _ (t := sh 7 c) (ne_7 c).symm (dv7 c) rfl rfl (i := 6) (j := 0) (v := 0) (p := 0) rfl) $$ [M7 SLt HS]
  · isplitr; · iexact HE
    isplitr [HS]
    · iapply (bar_give_prev m c); isplitl [M7]; · iexact M7
      iexact SLt
    iexact HS
  iintro HS
  iapply (st_barwait m K c rfl rfl (i := 7) (j := 0) (v := 0) (n := 0) (by revert c; decide +kernel) rfl) $$ [HS]
  · isplitr; · iexact HE
    iexact HS
  iintro ⟨⟨T1, T2, T3, T4, T5, T6, T7⟩, SA, SB, HS⟩
  ihave SA := (slots_out true (nbr true c)) $$ SA
  icases SA with ⟨Dt0, Dt1, Dt2, Dt3⟩
  ihave SB := (slots_out false (nbr false c)) $$ SB
  icases SB with ⟨Df0, Df1, Df2, Df3⟩
  ihave RSt0 := (rs_zero m K c true) $$ HE
  ihave RDt0 := (rdy_zero m K c true) $$ HE
  iapply (st_hop m K c _ true (h := 0) (by decide) (dv8 c) rfl rfl rfl rfl (i := 7) (j := 0) (v := 1) (p := 1) rfl rfl) $$ [St0 Dt0 RSt0 RDt0 HS]
  · isplitr; · iexact HE
    isplitl [St0]; · iexact St0
    isplitl [Dt0]; · iexact Dt0
    isplitl [RSt0]; · iexact RSt0
    isplitl [RDt0]; · iexact RDt0
    iexact HS
  iintro ⟨FLt0, HS⟩
  iapply (run_ret c _ Kt)
  iapply Hk
  isplitl [T1]; · iexact T1
  isplitl [T2]; · iexact T2
  isplitl [T3]; · iexact T3
  isplitl [T4]; · iexact T4
  isplitl [T5]; · iexact T5
  isplitl [T6]; · iexact T6
  isplitl [T7]; · iexact T7
  isplitl [Dt1]; · iexact Dt1
  isplitl [Dt2]; · iexact Dt2
  isplitl [Dt3]; · iexact Dt3
  isplitl [Df0]; · iexact Df0
  isplitl [Df1]; · iexact Df1
  isplitl [Df2]; · iexact Df2
  isplitl [Df3]; · iexact Df3
  isplitl [FLt0]; · iexact FLt0
  iexact HS

/-- Part 3 of the kernel: from what it uses to what it leaves. -/
theorem part3 (c : Dev nD) (v2 : BitVec 32) (Kt : (PUnit) → sProp 𝕄) :
    iprop(Env m K ∗ srcAt m false c 0 ∗ anyOf (nbr false c) (wslot false 0) ∗ own c (xblk (sh 1 c)) fullShare (xpart m c (sh 1 c)) ∗ anyOf (sh 1 c) (gslot c) ∗ own c (xblk (sh 2 c)) fullShare (xpart m c (sh 2 c)) ∗ anyOf (sh 2 c) (gslot c) ∗ St c 8 1 1 1)
      ⊢ iprop(((iprop(fly c false 0 ∗ crd c (.xs (sh 1 c), 0) ∗ crd c (.xs (sh 2 c), 0) ∗ St c 11 4 1 1) -∗ Kt ⟨⟩))
          -∗ run c (k0_part3 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2) Kt) := by
  rw [k0_part3_eq_skeleton]
  unfold k0_part3_skel
  simp only [Prog.lift, Prog.bind_op, Prog.bind_ret, Prog.pure_eq_ret]
  iintro ⟨#HE, Sf0, Df0, X1, T1, X2, T2, HS⟩ Hk
  ihave RSf0 := (rs_zero m K c false) $$ HE
  ihave RDf0 := (rdy_zero m K c false) $$ HE
  iapply (st_hop m K c _ false (h := 0) (by decide) (dv9 c) rfl rfl rfl rfl (i := 8) (j := 1) (v := 1) (p := 1) rfl rfl) $$ [Sf0 Df0 RSf0 RDf0 HS]
  · isplitr; · iexact HE
    isplitl [Sf0]; · iexact Sf0
    isplitl [Df0]; · iexact Df0
    isplitl [RSf0]; · iexact RSf0
    isplitl [RDf0]; · iexact RDf0
    iexact HS
  iintro ⟨FLf0, HS⟩
  iapply (st_x m K c _ (sh 1 c) (ne_1 c) (dv10 c) (xblk_of (hb := k0_off4_inb c 0) (sh 1 c) (o4_1 c)) (gslot_of (hb := k0_off3_inb c) c (o3 c)) (loc_xs (hb := k0_off1_inb c 0) (sh 1 c) (o1_1 c)) (loc_xr (hb := k0_off2_inb c) c (o2 c)) (i := 9) (j := 2) (v := 1) (p := 1) rfl rfl) $$ [X1 T1 HS]
  · isplitr; · iexact HE
    isplitl [X1]; · iexact X1
    isplitl [T1]; · iexact T1
    iexact HS
  iintro ⟨CX1, HS⟩
  iapply (st_x m K c _ (sh 2 c) (ne_2 c) (dv11 c) (xblk_of (hb := k0_off4_inb c 1) (sh 2 c) (o4_2 c)) (gslot_of (hb := k0_off3_inb c) c (o3 c)) (loc_xs (hb := k0_off1_inb c 1) (sh 2 c) (o1_2 c)) (loc_xr (hb := k0_off2_inb c) c (o2 c)) (i := 10) (j := 3) (v := 1) (p := 1) rfl rfl) $$ [X2 T2 HS]
  · isplitr; · iexact HE
    isplitl [X2]; · iexact X2
    isplitl [T2]; · iexact T2
    iexact HS
  iintro ⟨CX2, HS⟩
  iapply (run_ret c _ Kt)
  iapply Hk
  isplitl [FLf0]; · iexact FLf0
  isplitl [CX1]; · iexact CX1
  isplitl [CX2]; · iexact CX2
  iexact HS

/-- Part 4 of the kernel: from what it uses to what it leaves. -/
theorem part4 (c : Dev nD) (v2 : BitVec 32) (Kt : (Σ' (v116 : BitVec 32), BitVec 32) → sProp 𝕄) :
    iprop(Env m K ∗ own c (xblk (sh 3 c)) fullShare (xpart m c (sh 3 c)) ∗ anyOf (sh 3 c) (gslot c) ∗ own c (xblk (sh 4 c)) fullShare (xpart m c (sh 4 c)) ∗ anyOf (sh 4 c) (gslot c) ∗ own c (xblk (sh 5 c)) fullShare (xpart m c (sh 5 c)) ∗ anyOf (sh 5 c) (gslot c) ∗ St c 11 4 1 1)
      ⊢ iprop((∀ u1 : BitVec 32, ∀ u2 : BitVec 32, (iprop(crd c (.xs (sh 3 c), 0) ∗ crd c (.xs (sh 4 c), 0) ∗ crd c (.xs (sh 5 c), 0) ∗ St c 14 7 1 1) -∗ Kt ⟨u1, u2⟩))
          -∗ run c (k0_part4 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2) Kt) := by
  rw [k0_part4_eq_skeleton]
  unfold k0_part4_skel
  simp only [Prog.lift, Prog.bind_op, Prog.bind_ret, Prog.pure_eq_ret]
  iintro ⟨#HE, X3, T3, X4, T4, X5, T5, HS⟩ Hk
  iapply (st_x m K c _ (sh 3 c) (ne_3 c) (dv12 c) (xblk_of (hb := k0_off4_inb c 2) (sh 3 c) (o4_3 c)) (gslot_of (hb := k0_off3_inb c) c (o3 c)) (loc_xs (hb := k0_off1_inb c 2) (sh 3 c) (o1_3 c)) (loc_xr (hb := k0_off2_inb c) c (o2 c)) (i := 11) (j := 4) (v := 1) (p := 1) rfl rfl) $$ [X3 T3 HS]
  · isplitr; · iexact HE
    isplitl [X3]; · iexact X3
    isplitl [T3]; · iexact T3
    iexact HS
  iintro ⟨CX3, HS⟩
  iapply (st_x m K c _ (sh 4 c) (ne_4 c) (dv13 c) (xblk_of (hb := k0_off4_inb c 3) (sh 4 c) (o4_4 c)) (gslot_of (hb := k0_off3_inb c) c (o3 c)) (loc_xs (hb := k0_off1_inb c 3) (sh 4 c) (o1_4 c)) (loc_xr (hb := k0_off2_inb c) c (o2 c)) (i := 12) (j := 5) (v := 1) (p := 1) rfl rfl) $$ [X4 T4 HS]
  · isplitr; · iexact HE
    isplitl [X4]; · iexact X4
    isplitl [T4]; · iexact T4
    iexact HS
  iintro ⟨CX4, HS⟩
  iapply (st_x m K c _ (sh 5 c) (ne_5 c) (dv14 c) (xblk_of (hb := k0_off4_inb c 4) (sh 5 c) (o4_5 c)) (gslot_of (hb := k0_off3_inb c) c (o3 c)) (loc_xs (hb := k0_off1_inb c 4) (sh 5 c) (o1_5 c)) (loc_xr (hb := k0_off2_inb c) c (o2 c)) (i := 13) (j := 6) (v := 1) (p := 1) rfl rfl) $$ [X5 T5 HS]
  · isplitr; · iexact HE
    isplitl [X5]; · iexact X5
    isplitl [T5]; · iexact T5
    iexact HS
  iintro ⟨CX5, HS⟩
  iapply (run_ret c _ Kt)
  iapply Hk
  isplitl [CX3]; · iexact CX3
  isplitl [CX4]; · iexact CX4
  isplitl [CX5]; · iexact CX5
  iexact HS

/-- Part 5 of the kernel: from what it uses to what it leaves. -/
theorem part5 (c : Dev nD) (v2 : BitVec 32) (v116 : BitVec 32) (c1_i32_93 : BitVec 32) (Ov : S512x8192.Idx → Elt F .f32) (Wv : S512x8192.Idx → Elt F .i8) (Kt : (PUnit) → sProp 𝕄) :
    iprop(Env m K ∗ own c (xblk (sh 6 c)) fullShare (xpart m c (sh 6 c)) ∗ anyOf (sh 6 c) (gslot c) ∗ own c (xblk (sh 7 c)) fullShare (xpart m c (sh 7 c)) ∗ anyOf (sh 7 c) (gslot c) ∗ own c (xblk c) fullShare (xpart m c c) ∗ own c wW fullShare.left Wv ∗ own c oW fullShare Ov ∗ St c 14 7 1 1)
      ⊢ iprop(((iprop(crd c (.xs (sh 6 c), 0) ∗ crd c (.xs (sh 7 c), 0) ∗ own c (xblk c) fullShare (xpart m c c) ∗ own c wW fullShare.left Wv ∗ own c oW fullShare (k0_pay1 (xpart m c c) Wv) ∗ St c 16 9 1 1) -∗ Kt ⟨⟩))
          -∗ run c (k0_part5 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2 v116 c1_i32_93) Kt) := by
  rw [k0_part5_eq_skeleton]
  unfold k0_part5_skel
  simp only [Prog.lift, Prog.bind_op, Prog.bind_ret, Prog.pure_eq_ret]
  iintro ⟨#HE, X6, T6, X7, T7, XX, WL, OW, HS⟩ Hk
  iapply (st_x m K c _ (sh 6 c) (ne_6 c) (dv15 c) (xblk_of (hb := k0_off4_inb c 5) (sh 6 c) (o4_6 c)) (gslot_of (hb := k0_off3_inb c) c (o3 c)) (loc_xs (hb := k0_off1_inb c 5) (sh 6 c) (o1_6 c)) (loc_xr (hb := k0_off2_inb c) c (o2 c)) (i := 14) (j := 7) (v := 1) (p := 1) rfl rfl) $$ [X6 T6 HS]
  · isplitr; · iexact HE
    isplitl [X6]; · iexact X6
    isplitl [T6]; · iexact T6
    iexact HS
  iintro ⟨CX6, HS⟩
  iapply (st_x m K c _ (sh 7 c) (ne_7 c) (dv16 c) (xblk_of (hb := k0_off4_inb c 6) (sh 7 c) (o4_7 c)) (gslot_of (hb := k0_off3_inb c) c (o3 c)) (loc_xs (hb := k0_off1_inb c 6) (sh 7 c) (o1_7 c)) (loc_xr (hb := k0_off2_inb c) c (o2 c)) (i := 15) (j := 8) (v := 1) (p := 1) rfl rfl) $$ [X7 T7 HS]
  · isplitr; · iexact HE
    isplitl [X7]; · iexact X7
    isplitl [T7]; · iexact T7
    iexact HS
  iintro ⟨CX7, HS⟩
  iapply (ld_x c c (o5 c) fullShare (xpart m c c)) $$ [XX]
  · iexact XX
  iintro XX
  iapply (ld_wW c fullShare.left Wv) $$ [WL]
  · iexact WL
  iintro WL
  iapply (ld_oW c fullShare Ov) $$ [OW]
  · iexact OW
  iintro OW
  iapply (wr_oW c Ov) $$ [OW]
  · iexact OW
  iintro OW
  iapply (run_ret c _ Kt)
  iapply Hk
  isplitl [CX6]; · iexact CX6
  isplitl [CX7]; · iexact CX7
  isplitl [XX]; · iexact XX
  isplitl [WL]; · iexact WL
  isplitl [OW]; · iexact OW
  iexact HS

/-- Part 6 of the kernel: from what it uses to what it leaves. -/
theorem part6 (c : Dev nD) (v5 : BitVec 32) (v7 : BitVec 32) (Kt : (BitVec 32) → sProp 𝕄) :
    iprop(Env m K ∗ fly c true 0 ∗ fly c false 0 ∗ St c 16 9 1 1)
      ⊢ iprop((∀ u1 : BitVec 32, (iprop(srcAt m true c 0 ∗ rs c true 2 ∗ srcAt m false c 0 ∗ rs c false 2 ∗ keepAt m true c 0 ∗ srcAt m true c 1 ∗ rdy c false 1 ∗ keepAt m false c 0 ∗ srcAt m false c 1 ∗ rdy c true 1 ∗ St c 16 9 3 5) -∗ Kt u1))
          -∗ run c (k0_part6 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 v5 v7) Kt) := by
  rw [k0_part6_eq_skeleton]
  unfold k0_part6_skel
  simp only [Prog.lift, Prog.bind_op, Prog.bind_ret, Prog.pure_eq_ret]
  iintro ⟨#HE, FLt0, FLf0, HS⟩ Hk
  iapply (st_sent m K c true (h := 0) (by decide) rfl rfl (i := 16) (j := 9) (v := 1) (n := 1) (by revert c; decide +kernel)) $$ [FLt0 HS]
  · isplitr; · iexact HE
    isplitl [FLt0]; · iexact FLt0
    iexact HS
  iintro ⟨St0, RSt2, HS⟩
  iapply (st_sent m K c false (h := 0) (by decide) rfl rfl (i := 16) (j := 9) (v := 1) (n := 2) (by revert c; decide +kernel)) $$ [FLf0 HS]
  · isplitr; · iexact HE
    isplitl [FLf0]; · iexact FLf0
    iexact HS
  iintro ⟨Sf0, RSf2, HS⟩
  iapply (st_recv m K c true (h := 0) (by decide) rfl rfl (i := 16) (j := 9) (v := 1) (n := 3) (by revert c; decide +kernel) rfl) $$ [HS]
  · isplitr; · iexact HE
    iexact HS
  iintro ⟨LL, RDf1, HS⟩
  ihave LL := (land_lend m true c 0) $$ LL
  icases LL with ⟨Kt0, St1⟩
  iapply (st_recv m K c false (h := 0) (by decide) rfl rfl (i := 16) (j := 9) (v := 2) (n := 4) (by revert c; decide +kernel) rfl) $$ [HS]
  · isplitr; · iexact HE
    iexact HS
  iintro ⟨LL, RDt1, HS⟩
  ihave LL := (land_lend m false c 0) $$ LL
  icases LL with ⟨Kf0, Sf1⟩
  iapply (run_ret c _ Kt)
  iapply Hk
  isplitl [St0]; · iexact St0
  isplitl [RSt2]; · iexact RSt2
  isplitl [Sf0]; · iexact Sf0
  isplitl [RSf2]; · iexact RSf2
  isplitl [Kt0]; · iexact Kt0
  isplitl [St1]; · iexact St1
  isplitl [RDf1]; · iexact RDf1
  isplitl [Kf0]; · iexact Kf0
  isplitl [Sf1]; · iexact Sf1
  isplitl [RDt1]; · iexact RDt1
  iexact HS

/-- Part 7 of the kernel: from what it uses to what it leaves. -/
theorem part7 (c : Dev nD) (v5 : BitVec 32) (v7 : BitVec 32) (c1_i32_149 : BitVec 32) (Kt : (PUnit) → sProp 𝕄) :
    iprop(Env m K ∗ srcAt m true c 1 ∗ anyOf (nbr true c) (wslot true 1) ∗ rdy c true 1 ∗ srcAt m false c 1 ∗ anyOf (nbr false c) (wslot false 1) ∗ rdy c false 1 ∗ St c 16 9 3 5)
      ⊢ iprop(((iprop(fly c false 1 ∗ srcAt m true c 1 ∗ rs c true 3 ∗ St c 18 11 3 6) -∗ Kt ⟨⟩))
          -∗ run c (k0_part7 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7 c1_i32_149) Kt) := by
  rw [k0_part7_eq_skeleton]
  unfold k0_part7_skel
  simp only [Prog.lift, Prog.bind_op, Prog.bind_ret, Prog.pure_eq_ret]
  iintro ⟨#HE, St1, Dt1, RDt1, Sf1, Df1, RDf1, HS⟩ Hk
  ihave RSt1 := (rs_one m K c true) $$ HE
  iapply (st_hop m K c _ true (h := 1) (by decide) (dv17 c) rfl rfl rfl rfl (i := 16) (j := 9) (v := 3) (p := 5) rfl rfl) $$ [St1 Dt1 RSt1 RDt1 HS]
  · isplitr; · iexact HE
    isplitl [St1]; · iexact St1
    isplitl [Dt1]; · iexact Dt1
    isplitl [RSt1]; · iexact RSt1
    isplitl [RDt1]; · iexact RDt1
    iexact HS
  iintro ⟨FLt1, HS⟩
  ihave RSf1 := (rs_one m K c false) $$ HE
  iapply (st_hop m K c _ false (h := 1) (by decide) (dv18 c) rfl rfl rfl rfl (i := 17) (j := 10) (v := 3) (p := 5) rfl rfl) $$ [Sf1 Df1 RSf1 RDf1 HS]
  · isplitr; · iexact HE
    isplitl [Sf1]; · iexact Sf1
    isplitl [Df1]; · iexact Df1
    isplitl [RSf1]; · iexact RSf1
    isplitl [RDf1]; · iexact RDf1
    iexact HS
  iintro ⟨FLf1, HS⟩
  iapply (st_sent m K c true (h := 1) (by decide) rfl rfl (i := 18) (j := 11) (v := 3) (n := 5) (by revert c; decide +kernel)) $$ [FLt1 HS]
  · isplitr; · iexact HE
    isplitl [FLt1]; · iexact FLt1
    iexact HS
  iintro ⟨St1, RSt3, HS⟩
  iapply (run_ret c _ Kt)
  iapply Hk
  isplitl [FLf1]; · iexact FLf1
  isplitl [St1]; · iexact St1
  isplitl [RSt3]; · iexact RSt3
  iexact HS

/-- Part 8 of the kernel: from what it uses to what it leaves. -/
theorem part8 (c : Dev nD) (v5 : BitVec 32) (v7 : BitVec 32) (Kt : (PUnit) → sProp 𝕄) :
    iprop(Env m K ∗ fly c false 1 ∗ St c 18 11 3 6)
      ⊢ iprop(((iprop(srcAt m false c 1 ∗ rs c false 3 ∗ keepAt m true c 1 ∗ srcAt m true c 2 ∗ rdy c false 2 ∗ keepAt m false c 1 ∗ srcAt m false c 2 ∗ rdy c true 2 ∗ St c 18 11 5 9) -∗ Kt ⟨⟩))
          -∗ run c (k0_part8 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 v5 v7) Kt) := by
  rw [k0_part8_eq_skeleton]
  unfold k0_part8_skel
  simp only [Prog.lift, Prog.bind_op, Prog.bind_ret, Prog.pure_eq_ret]
  iintro ⟨#HE, FLf1, HS⟩ Hk
  iapply (st_sent m K c false (h := 1) (by decide) rfl rfl (i := 18) (j := 11) (v := 3) (n := 6) (by revert c; decide +kernel)) $$ [FLf1 HS]
  · isplitr; · iexact HE
    isplitl [FLf1]; · iexact FLf1
    iexact HS
  iintro ⟨Sf1, RSf3, HS⟩
  iapply (st_recv m K c true (h := 1) (by decide) rfl rfl (i := 18) (j := 11) (v := 3) (n := 7) (by revert c; decide +kernel) rfl) $$ [HS]
  · isplitr; · iexact HE
    iexact HS
  iintro ⟨LL, RDf2, HS⟩
  ihave LL := (land_lend m true c 1) $$ LL
  icases LL with ⟨Kt1, St2⟩
  iapply (st_recv m K c false (h := 1) (by decide) rfl rfl (i := 18) (j := 11) (v := 4) (n := 8) (by revert c; decide +kernel) rfl) $$ [HS]
  · isplitr; · iexact HE
    iexact HS
  iintro ⟨LL, RDt2, HS⟩
  ihave LL := (land_lend m false c 1) $$ LL
  icases LL with ⟨Kf1, Sf2⟩
  iapply (run_ret c _ Kt)
  iapply Hk
  isplitl [Sf1]; · iexact Sf1
  isplitl [RSf3]; · iexact RSf3
  isplitl [Kt1]; · iexact Kt1
  isplitl [St2]; · iexact St2
  isplitl [RDf2]; · iexact RDf2
  isplitl [Kf1]; · iexact Kf1
  isplitl [Sf2]; · iexact Sf2
  isplitl [RDt2]; · iexact RDt2
  iexact HS

/-- Part 9 of the kernel: from what it uses to what it leaves. -/
theorem part9 (c : Dev nD) (v2 : BitVec 32) (v5 : BitVec 32) (Kt : (Σ' (v244 : BitVec 32) (v247 : BitVec 32) (v250 : BitVec 32), BitVec 32) → sProp 𝕄) :
    iprop(Env m K ∗ srcAt m true c 2 ∗ anyOf (nbr true c) (wslot true 2) ∗ rs c true 2 ∗ rdy c true 2 ∗ srcAt m false c 2 ∗ anyOf (nbr false c) (wslot false 2) ∗ rs c false 2 ∗ rdy c false 2 ∗ St c 18 11 5 9)
      ⊢ iprop((∀ u1 : BitVec 32, ∀ u2 : BitVec 32, ∀ u3 : BitVec 32, ∀ u4 : BitVec 32, (iprop(fly c true 2 ∗ fly c false 2 ∗ St c 20 13 5 9) -∗ Kt ⟨u1, u2, u3, u4⟩))
          -∗ run c (k0_part9 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2 v5) Kt) := by
  rw [k0_part9_eq_skeleton]
  unfold k0_part9_skel
  simp only [Prog.lift, Prog.bind_op, Prog.bind_ret, Prog.pure_eq_ret]
  iintro ⟨#HE, St2, Dt2, RSt2, RDt2, Sf2, Df2, RSf2, RDf2, HS⟩ Hk
  iapply (st_hop m K c _ true (h := 2) (by decide) (dv19 c) rfl rfl rfl rfl (i := 18) (j := 11) (v := 5) (p := 9) rfl rfl) $$ [St2 Dt2 RSt2 RDt2 HS]
  · isplitr; · iexact HE
    isplitl [St2]; · iexact St2
    isplitl [Dt2]; · iexact Dt2
    isplitl [RSt2]; · iexact RSt2
    isplitl [RDt2]; · iexact RDt2
    iexact HS
  iintro ⟨FLt2, HS⟩
  iapply (st_hop m K c _ false (h := 2) (by decide) (dv20 c) rfl rfl rfl rfl (i := 19) (j := 12) (v := 5) (p := 9) rfl rfl) $$ [Sf2 Df2 RSf2 RDf2 HS]
  · isplitr; · iexact HE
    isplitl [Sf2]; · iexact Sf2
    isplitl [Df2]; · iexact Df2
    isplitl [RSf2]; · iexact RSf2
    isplitl [RDf2]; · iexact RDf2
    iexact HS
  iintro ⟨FLf2, HS⟩
  iapply (run_ret c _ Kt)
  iapply Hk
  isplitl [FLt2]; · iexact FLt2
  isplitl [FLf2]; · iexact FLf2
  iexact HS

end Cert.RingProof
-- ==== Proof.Parts2.lean ====
/-
# The parts of the kernel, up to the fifth hop

Each part of the printed kernel, run by one device: the memory and the protocol's pieces it uses, and what it leaves.
-/
module

public import proofs.«01_k».proof.Proof.Views

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-- Part 10 of the kernel: from what it uses to what it leaves. -/
theorem part10 (c : Dev nD) (v5 : BitVec 32) (v244 : BitVec 32) (v247 : BitVec 32) (Kt : (IVec S512x512 8) → sProp 𝕄) :
    iprop(Env m K ∗ St c 20 13 5 9)
      ⊢ iprop(((iprop(own c (gslot (sh 6 c)) fullShare (xpart m (sh 6 c) c) ∗ own c (gslot (sh 1 c)) fullShare (xpart m (sh 1 c) c) ∗ own c (gslot (sh 2 c)) fullShare (xpart m (sh 2 c) c) ∗ own c (gslot (sh 7 c)) fullShare (xpart m (sh 7 c) c) ∗ St c 20 13 9 13) -∗ Kt (k0_pay2 (slab squeezes_S1x512x512_S512x512 (xpart m (sh 7 c) c)))))
          -∗ run c (k0_part10 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v244 v247) Kt) := by
  rw [k0_part10_eq_skeleton]
  unfold k0_part10_skel
  simp only [Prog.lift, Prog.bind_op, Prog.bind_ret, Prog.pure_eq_ret]
  iintro ⟨#HE, HS⟩ Hk
  iapply (st_xrecv m K c (sh 7 c) (ne_7 c) (loc_xr (hb := k0_off6_inb c 0) (sh 7 c) (o6_7 c)) (gslot_of (hb := k0_off7_inb c 0) (sh 7 c) (o7_7 c)) (i := 20) (j := 13) (v := 5) (n := 9) (by revert c; decide +kernel) rfl) $$ [HS]
  · isplitr; · iexact HE
    iexact HS
  iintro ⟨G7, HS⟩
  iapply (st_xrecv m K c (sh 6 c) (ne_6 c) (loc_xr (hb := k0_off8_inb c 0) (sh 6 c) (o8_6 c)) (gslot_of (hb := k0_off9_inb c 0) (sh 6 c) (o9_6 c)) (i := 20) (j := 13) (v := 6) (n := 10) (by revert c; decide +kernel) rfl) $$ [HS]
  · isplitr; · iexact HE
    iexact HS
  iintro ⟨G6, HS⟩
  iapply (st_xrecv m K c (sh 1 c) (ne_1 c) (loc_xr (hb := k0_off8_inb c 1) (sh 1 c) (o8_1 c)) (gslot_of (hb := k0_off9_inb c 1) (sh 1 c) (o9_1 c)) (i := 20) (j := 13) (v := 7) (n := 11) (by revert c; decide +kernel) rfl) $$ [HS]
  · isplitr; · iexact HE
    iexact HS
  iintro ⟨G1, HS⟩
  iapply (st_xrecv m K c (sh 2 c) (ne_2 c) (loc_xr (hb := k0_off1_inb c 1) (sh 2 c) (o1_2 c)) (gslot_of (hb := k0_off10_inb c 0) (sh 2 c) (o10_2 c)) (i := 20) (j := 13) (v := 8) (n := 12) (by revert c; decide +kernel) rfl) $$ [HS]
  · isplitr; · iexact HE
    iexact HS
  iintro ⟨G2, HS⟩
  iapply (ld_g c (sh 7 c) (o11_7 c) fullShare (xpart m (sh 7 c) c)) $$ [G7]
  · iexact G7
  iintro G7
  iapply (run_ret c _ Kt)
  iapply Hk
  isplitl [G6]; · iexact G6
  isplitl [G1]; · iexact G1
  isplitl [G2]; · iexact G2
  isplitl [G7]; · iexact G7
  iexact HS

/-- Part 11 of the kernel: from what it uses to what it leaves. -/
theorem part11 (c : Dev nD) (v250 : BitVec 32) (v252 : BitVec 32) (v287 : IVec S512x512 8) (Xt : S512x4096.Idx → Elt F .f32) (Xf : S512x4096.Idx → Elt F .f32) (Kt : (FVec F S512x4096 .f32) → sProp 𝕄) :
    iprop(Env m K ∗ own c (gslot (sh 6 c)) fullShare (xpart m (sh 6 c) c) ∗ keepAt m true c 0 ∗ keepAt m true c 1 ∗ own c (ohalf true) fullShare Xt ∗ own c (gslot (sh 1 c)) fullShare (xpart m (sh 1 c) c) ∗ own c (gslot (sh 2 c)) fullShare (xpart m (sh 2 c) c) ∗ keepAt m false c 0 ∗ keepAt m false c 1 ∗ own c (ohalf false) fullShare Xf ∗ St c 20 13 9 13)
      ⊢ iprop(((iprop(own c (gslot (sh 6 c)) fullShare (xpart m (sh 6 c) c) ∗ keepAt m true c 0 ∗ keepAt m true c 1 ∗ own c (ohalf true) fullShare (k0_pay3 v287 (slab squeezes_S1x512x512_S512x512 (xpart m (sh 6 c) c)) (slab squeezes_S1x512x4096_S512x4096 (wpart m (org true c 0) true)) (slab squeezes_S1x512x4096_S512x4096 (wpart m (org true c 1) true)) Xt) ∗ own c (gslot (sh 1 c)) fullShare (xpart m (sh 1 c) c) ∗ own c (gslot (sh 2 c)) fullShare (xpart m (sh 2 c) c) ∗ keepAt m false c 0 ∗ keepAt m false c 1 ∗ own c (ohalf false) fullShare Xf ∗ St c 20 13 9 13) -∗ Kt (k0_pay4 (slab squeezes_S1x512x512_S512x512 (xpart m (sh 1 c) c)) (slab squeezes_S1x512x512_S512x512 (xpart m (sh 2 c) c)) (slab squeezes_S1x512x4096_S512x4096 (wpart m (org false c 0) false)) (slab squeezes_S1x512x4096_S512x4096 (wpart m (org false c 1) false)) Xf)))
          -∗ run c (k0_part11 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v250 v252 v287) Kt) := by
  rw [k0_part11_eq_skeleton]
  unfold k0_part11_skel
  simp only [Prog.lift, Prog.bind_op, Prog.bind_ret, Prog.pure_eq_ret]
  iintro ⟨#HE, G6, Kt0, Kt1, Ot, G1, G2, Kf0, Kf1, Of, HS⟩ Hk
  iapply (ld_g c (sh 6 c) (o12_6 c) fullShare (xpart m (sh 6 c) c)) $$ [G6]
  · iexact G6
  iintro G6
  iapply (ld_k m c true 0 rfl) $$ [Kt0]
  · iexact Kt0
  iintro Kt0
  iapply (ld_k m c true 1 rfl) $$ [Kt1]
  · iexact Kt1
  iintro Kt1
  iapply (ld_o c true fullShare Xt) $$ [Ot]
  · iexact Ot
  iintro Ot
  iapply (ld_o c true fullShare Xt) $$ [Ot]
  · iexact Ot
  iintro Ot
  iapply (wr_o c true Xt) $$ [Ot]
  · iexact Ot
  iintro Ot
  iapply (ld_g c (sh 1 c) (o12_1 c) fullShare (xpart m (sh 1 c) c)) $$ [G1]
  · iexact G1
  iintro G1
  iapply (ld_g c (sh 2 c) (o13_2 c) fullShare (xpart m (sh 2 c) c)) $$ [G2]
  · iexact G2
  iintro G2
  iapply (ld_k m c false 0 rfl) $$ [Kf0]
  · iexact Kf0
  iintro Kf0
  iapply (ld_k m c false 1 rfl) $$ [Kf1]
  · iexact Kf1
  iintro Kf1
  iapply (ld_o c false fullShare Xf) $$ [Of]
  · iexact Of
  iintro Of
  iapply (run_ret c _ Kt)
  iapply Hk
  isplitl [G6]; · iexact G6
  isplitl [Kt0]; · iexact Kt0
  isplitl [Kt1]; · iexact Kt1
  isplitl [Ot]; · iexact Ot
  isplitl [G1]; · iexact G1
  isplitl [G2]; · iexact G2
  isplitl [Kf0]; · iexact Kf0
  isplitl [Kf1]; · iexact Kf1
  isplitl [Of]; · iexact Of
  iexact HS

/-- Part 12 of the kernel: from what it uses to what it leaves. -/
theorem part12 (c : Dev nD) (v5 : BitVec 32) (v7 : BitVec 32) (v321 : FVec F S512x4096 .f32) (Xf : S512x4096.Idx → Elt F .f32) (Kt : (Σ' (v345 : BitVec 32), BitVec 32) → sProp 𝕄) :
    iprop(Env m K ∗ own c (ohalf false) fullShare Xf ∗ fly c true 2 ∗ fly c false 2 ∗ keepAt m true c 0 ∗ srcAt m true c 1 ∗ keepAt m false c 0 ∗ srcAt m false c 1 ∗ St c 20 13 9 13)
      ⊢ iprop((∀ u1 : BitVec 32, ∀ u2 : BitVec 32, (iprop(own c (ohalf false) fullShare v321 ∗ srcAt m true c 2 ∗ rs c true 4 ∗ srcAt m false c 2 ∗ rs c false 4 ∗ St c 22 13 9 15) -∗ Kt ⟨u1, u2⟩))
          -∗ run c (k0_part12 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7 v321) Kt) := by
  rw [k0_part12_eq_skeleton]
  unfold k0_part12_skel
  simp only [semSignalWord, semWaitWord, Prog.lift, Prog.bind_op, Prog.bind_ret, Prog.pure_eq_ret]
  iintro ⟨#HE, Of, FLt2, FLf2, Kt0, St1, Kf0, Sf1, HS⟩ Hk
  iapply (ld_o c false fullShare Xf) $$ [Of]
  · iexact Of
  iintro Of
  iapply (wr_o c false Xf) $$ [Of]
  · iexact Of
  iintro Of
  iapply (st_sent m K c true (h := 2) (by decide) rfl rfl (i := 20) (j := 13) (v := 9) (n := 13) (by revert c; decide +kernel)) $$ [FLt2 HS]
  · isplitr; · iexact HE
    isplitl [FLt2]; · iexact FLt2
    iexact HS
  iintro ⟨St2, RSt4, HS⟩
  iapply (st_sent m K c false (h := 2) (by decide) rfl rfl (i := 20) (j := 13) (v := 9) (n := 14) (by revert c; decide +kernel)) $$ [FLf2 HS]
  · isplitr; · iexact HE
    isplitl [FLf2]; · iexact FLf2
    iexact HS
  iintro ⟨Sf2, RSf4, HS⟩
  iapply (st_credit m K c _ true 0 (by decide) (dv21 c) rfl rfl (i := 20) (j := 13) (v := 9) (p := 15) rfl) $$ [Kt0 St1 HS]
  · isplitr; · iexact HE
    isplitr [HS]
    · iapply (land_any m true c 0); iapply (land_back m true c 0); isplitl [Kt0]; · iexact Kt0
      iexact St1
    iexact HS
  iintro HS
  iapply (st_credit m K c _ false 0 (by decide) (dv22 c) rfl rfl (i := 21) (j := 13) (v := 9) (p := 15) rfl) $$ [Kf0 Sf1 HS]
  · isplitr; · iexact HE
    isplitr [HS]
    · iapply (land_any m false c 0); iapply (land_back m false c 0); isplitl [Kf0]; · iexact Kf0
      iexact Sf1
    iexact HS
  iintro HS
  iapply (run_ret c _ Kt)
  iapply Hk
  isplitl [Of]; · iexact Of
  isplitl [St2]; · iexact St2
  isplitl [RSt4]; · iexact RSt4
  isplitl [Sf2]; · iexact Sf2
  isplitl [RSf4]; · iexact RSf4
  iexact HS

/-- Part 13 of the kernel: from what it uses to what it leaves. -/
theorem part13 (c : Dev nD) (v5 : BitVec 32) (v7 : BitVec 32) (v345 : BitVec 32) (c0_i32_316 : BitVec 32) (Kt : (PUnit) → sProp 𝕄) :
    iprop(Env m K ∗ keepAt m true c 1 ∗ srcAt m true c 2 ∗ keepAt m false c 1 ∗ srcAt m false c 2 ∗ St c 22 13 9 15)
      ⊢ iprop(((iprop(keepAt m true c 2 ∗ srcAt m true c 3 ∗ rdy c false 3 ∗ keepAt m false c 2 ∗ srcAt m false c 3 ∗ rdy c true 3 ∗ St c 24 13 11 17) -∗ Kt ⟨⟩))
          -∗ run c (k0_part13 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7 v345 c0_i32_316) Kt) := by
  rw [k0_part13_eq_skeleton]
  unfold k0_part13_skel
  simp only [semSignalWord, semWaitWord, Prog.lift, Prog.bind_op, Prog.bind_ret, Prog.pure_eq_ret]
  iintro ⟨#HE, Kt1, St2, Kf1, Sf2, HS⟩ Hk
  iapply (st_credit m K c _ true 1 (by decide) (dv23 c) rfl rfl (i := 22) (j := 13) (v := 9) (p := 15) rfl) $$ [Kt1 St2 HS]
  · isplitr; · iexact HE
    isplitr [HS]
    · iapply (land_any m true c 1); iapply (land_back m true c 1); isplitl [Kt1]; · iexact Kt1
      iexact St2
    iexact HS
  iintro HS
  iapply (st_credit m K c _ false 1 (by decide) (dv24 c) rfl rfl (i := 23) (j := 13) (v := 9) (p := 15) rfl) $$ [Kf1 Sf2 HS]
  · isplitr; · iexact HE
    isplitr [HS]
    · iapply (land_any m false c 1); iapply (land_back m false c 1); isplitl [Kf1]; · iexact Kf1
      iexact Sf2
    iexact HS
  iintro HS
  iapply (st_recv m K c true (h := 2) (by decide) rfl rfl (i := 24) (j := 13) (v := 9) (n := 15) (by revert c; decide +kernel) rfl) $$ [HS]
  · isplitr; · iexact HE
    iexact HS
  iintro ⟨LL, RDf3, HS⟩
  ihave LL := (land_lend m true c 2) $$ LL
  icases LL with ⟨Kt2, St3⟩
  iapply (st_recv m K c false (h := 2) (by decide) rfl rfl (i := 24) (j := 13) (v := 10) (n := 16) (by revert c; decide +kernel) rfl) $$ [HS]
  · isplitr; · iexact HE
    iexact HS
  iintro ⟨LL, RDt3, HS⟩
  ihave LL := (land_lend m false c 2) $$ LL
  icases LL with ⟨Kf2, Sf3⟩
  iapply (run_ret c _ Kt)
  iapply Hk
  isplitl [Kt2]; · iexact Kt2
  isplitl [St3]; · iexact St3
  isplitl [RDf3]; · iexact RDf3
  isplitl [Kf2]; · iexact Kf2
  isplitl [Sf3]; · iexact Sf3
  isplitl [RDt3]; · iexact RDt3
  iexact HS

/-- Part 14 of the kernel: from what it uses to what it leaves. -/
theorem part14 (c : Dev nD) (v5 : BitVec 32) (Kt : (PUnit) → sProp 𝕄) :
    iprop(Env m K ∗ srcAt m true c 3 ∗ anyOf (nbr true c) (wslot true 3) ∗ rs c true 3 ∗ rdy c true 3 ∗ srcAt m false c 3 ∗ anyOf (nbr false c) (wslot false 3) ∗ rs c false 3 ∗ rdy c false 3 ∗ St c 24 13 11 17)
      ⊢ iprop(((iprop(fly c false 3 ∗ srcAt m true c 3 ∗ rs c true 5 ∗ St c 26 15 11 18) -∗ Kt ⟨⟩))
          -∗ run c (k0_part14 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5) Kt) := by
  rw [k0_part14_eq_skeleton]
  unfold k0_part14_skel
  simp only [Prog.lift, Prog.bind_op, Prog.bind_ret, Prog.pure_eq_ret]
  iintro ⟨#HE, St3, Dt3, RSt3, RDt3, Sf3, Df3, RSf3, RDf3, HS⟩ Hk
  iapply (st_hop m K c _ true (h := 3) (by decide) (dv25 c) rfl rfl rfl rfl (i := 24) (j := 13) (v := 11) (p := 17) rfl rfl) $$ [St3 Dt3 RSt3 RDt3 HS]
  · isplitr; · iexact HE
    isplitl [St3]; · iexact St3
    isplitl [Dt3]; · iexact Dt3
    isplitl [RSt3]; · iexact RSt3
    isplitl [RDt3]; · iexact RDt3
    iexact HS
  iintro ⟨FLt3, HS⟩
  iapply (st_hop m K c _ false (h := 3) (by decide) (dv26 c) rfl rfl rfl rfl (i := 25) (j := 14) (v := 11) (p := 17) rfl rfl) $$ [Sf3 Df3 RSf3 RDf3 HS]
  · isplitr; · iexact HE
    isplitl [Sf3]; · iexact Sf3
    isplitl [Df3]; · iexact Df3
    isplitl [RSf3]; · iexact RSf3
    isplitl [RDf3]; · iexact RDf3
    iexact HS
  iintro ⟨FLf3, HS⟩
  iapply (st_sent m K c true (h := 3) (by decide) rfl rfl (i := 26) (j := 15) (v := 11) (n := 17) (by revert c; decide +kernel)) $$ [FLt3 HS]
  · isplitr; · iexact HE
    isplitl [FLt3]; · iexact FLt3
    iexact HS
  iintro ⟨St3, RSt5, HS⟩
  iapply (run_ret c _ Kt)
  iapply Hk
  isplitl [FLf3]; · iexact FLf3
  isplitl [St3]; · iexact St3
  isplitl [RSt5]; · iexact RSt5
  iexact HS

/-- Part 15 of the kernel: from what it uses to what it leaves. -/
theorem part15 (c : Dev nD) (v5 : BitVec 32) (v7 : BitVec 32) (Kt : (Σ' (v419 : BitVec 32), BitVec 32) → sProp 𝕄) :
    iprop(Env m K ∗ fly c false 3 ∗ St c 26 15 11 18)
      ⊢ iprop((∀ u1 : BitVec 32, ∀ u2 : BitVec 32, (iprop(srcAt m false c 3 ∗ rs c false 5 ∗ keepAt m true c 3 ∗ srcAt m true c 4 ∗ rdy c false 4 ∗ keepAt m false c 3 ∗ srcAt m false c 4 ∗ rdy c true 4 ∗ anyOf (nbr true c) (wslot true 0) ∗ anyOf (nbr false c) (wslot false 0) ∗ St c 26 15 15 23) -∗ Kt ⟨u1, u2⟩))
          -∗ run c (k0_part15 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 v5 v7) Kt) := by
  rw [k0_part15_eq_skeleton]
  unfold k0_part15_skel
  simp only [semSignalWord, semWaitWord, Prog.lift, Prog.bind_op, Prog.bind_ret, Prog.pure_eq_ret]
  iintro ⟨#HE, FLf3, HS⟩ Hk
  iapply (st_sent m K c false (h := 3) (by decide) rfl rfl (i := 26) (j := 15) (v := 11) (n := 18) (by revert c; decide +kernel)) $$ [FLf3 HS]
  · isplitr; · iexact HE
    isplitl [FLf3]; · iexact FLf3
    iexact HS
  iintro ⟨Sf3, RSf5, HS⟩
  iapply (st_recv m K c true (h := 3) (by decide) rfl rfl (i := 26) (j := 15) (v := 11) (n := 19) (by revert c; decide +kernel) rfl) $$ [HS]
  · isplitr; · iexact HE
    iexact HS
  iintro ⟨LL, RDf4, HS⟩
  ihave LL := (land_lend m true c 3) $$ LL
  icases LL with ⟨Kt3, St4⟩
  iapply (st_recv m K c false (h := 3) (by decide) rfl rfl (i := 26) (j := 15) (v := 12) (n := 20) (by revert c; decide +kernel) rfl) $$ [HS]
  · isplitr; · iexact HE
    iexact HS
  iintro ⟨LL, RDt4, HS⟩
  ihave LL := (land_lend m false c 3) $$ LL
  icases LL with ⟨Kf3, Sf4⟩
  iapply (st_free m K c true 0 (by decide) rfl rfl (i := 26) (j := 15) (v := 13) (n := 21) (by revert c; decide +kernel) rfl) $$ [HS]
  · isplitr; · iexact HE
    iexact HS
  iintro ⟨Dt0, HS⟩
  iapply (st_free m K c false 0 (by decide) rfl rfl (i := 26) (j := 15) (v := 14) (n := 22) (by revert c; decide +kernel) rfl) $$ [HS]
  · isplitr; · iexact HE
    iexact HS
  iintro ⟨Df0, HS⟩
  iapply (run_ret c _ Kt)
  iapply Hk
  isplitl [Sf3]; · iexact Sf3
  isplitl [RSf5]; · iexact RSf5
  isplitl [Kt3]; · iexact Kt3
  isplitl [St4]; · iexact St4
  isplitl [RDf4]; · iexact RDf4
  isplitl [Kf3]; · iexact Kf3
  isplitl [Sf4]; · iexact Sf4
  isplitl [RDt4]; · iexact RDt4
  isplitl [Dt0]; · iexact Dt0
  isplitl [Df0]; · iexact Df0
  iexact HS

/-- Part 16 of the kernel: from what it uses to what it leaves. -/
theorem part16 (c : Dev nD) (v2 : BitVec 32) (v5 : BitVec 32) (v419 : BitVec 32) (c0_i32_410 : BitVec 32) (Kt : (Σ' (v442 : BitVec 32) (v445 : BitVec 32) (v448 : BitVec 32) (v450 : BitVec 32), BitVec 32) → sProp 𝕄) :
    iprop(Env m K ∗ srcAt m true c 4 ∗ anyOf (nbr true c) (wslot true 0) ∗ rs c true 4 ∗ rdy c true 4 ∗ srcAt m false c 4 ∗ anyOf (nbr false c) (wslot false 0) ∗ rs c false 4 ∗ rdy c false 4 ∗ St c 26 15 15 23)
      ⊢ iprop((∀ u1 : BitVec 32, ∀ u2 : BitVec 32, ∀ u3 : BitVec 32, ∀ u4 : BitVec 32, ∀ u5 : BitVec 32, (iprop(fly c true 4 ∗ fly c false 4 ∗ St c 28 17 15 23) -∗ Kt ⟨u1, u2, u3, u4, u5⟩))
          -∗ run c (k0_part16 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2 v5 v419 c0_i32_410) Kt) := by
  rw [k0_part16_eq_skeleton]
  unfold k0_part16_skel
  simp only [Prog.lift, Prog.bind_op, Prog.bind_ret, Prog.pure_eq_ret]
  iintro ⟨#HE, St4, Dt0, RSt4, RDt4, Sf4, Df0, RSf4, RDf4, HS⟩ Hk
  iapply (st_hop m K c _ true (h := 4) (by decide) (dv27 c) rfl rfl rfl rfl (i := 26) (j := 15) (v := 15) (p := 23) rfl rfl) $$ [St4 Dt0 RSt4 RDt4 HS]
  · isplitr; · iexact HE
    isplitl [St4]; · iexact St4
    isplitl [Dt0]; · iexact Dt0
    isplitl [RSt4]; · iexact RSt4
    isplitl [RDt4]; · iexact RDt4
    iexact HS
  iintro ⟨FLt4, HS⟩
  iapply (st_hop m K c _ false (h := 4) (by decide) (dv28 c) rfl rfl rfl rfl (i := 27) (j := 16) (v := 15) (p := 23) rfl rfl) $$ [Sf4 Df0 RSf4 RDf4 HS]
  · isplitr; · iexact HE
    isplitl [Sf4]; · iexact Sf4
    isplitl [Df0]; · iexact Df0
    isplitl [RSf4]; · iexact RSf4
    isplitl [RDf4]; · iexact RDf4
    iexact HS
  iintro ⟨FLf4, HS⟩
  iapply (run_ret c _ Kt)
  iapply Hk
  isplitl [FLt4]; · iexact FLt4
  isplitl [FLf4]; · iexact FLf4
  iexact HS

/-- Part 17 of the kernel: from what it uses to what it leaves. -/
theorem part17 (c : Dev nD) (v5 : BitVec 32) (v442 : BitVec 32) (v445 : BitVec 32) (c1_i32_437 : BitVec 32) (Kt : (Σ' (v481 : IVec S512x1024 8), IVec S512x4096 8) → sProp 𝕄) :
    iprop(Env m K ∗ keepAt m true c 2 ∗ St c 28 17 15 23)
      ⊢ iprop(((iprop(own c (gslot (sh 3 c)) fullShare (xpart m (sh 3 c) c) ∗ own c (gslot (sh 5 c)) fullShare (xpart m (sh 5 c) c) ∗ own c (gslot (sh 4 c)) fullShare (xpart m (sh 4 c) c) ∗ keepAt m true c 2 ∗ St c 28 17 18 26) -∗ Kt ⟨(k0_pay5 (slab squeezes_S1x512x512_S512x512 (xpart m (sh 5 c) c)) (slab squeezes_S1x512x512_S512x512 (xpart m (sh 4 c) c))), (k0_pay6 (slab squeezes_S1x512x4096_S512x4096 (wpart m (org true c 2) true)))⟩))
          -∗ run c (k0_part17 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v442 v445 c1_i32_437) Kt) := by
  rw [k0_part17_eq_skeleton]
  unfold k0_part17_skel
  simp only [Prog.lift, Prog.bind_op, Prog.bind_ret, Prog.pure_eq_ret]
  iintro ⟨#HE, Kt2, HS⟩ Hk
  iapply (st_xrecv m K c (sh 5 c) (ne_5 c) (loc_xr (hb := k0_off6_inb c 1) (sh 5 c) (o6_5 c)) (gslot_of (hb := k0_off7_inb c 1) (sh 5 c) (o7_5 c)) (i := 28) (j := 17) (v := 15) (n := 23) (by revert c; decide +kernel) rfl) $$ [HS]
  · isplitr; · iexact HE
    iexact HS
  iintro ⟨G5, HS⟩
  iapply (st_xrecv m K c (sh 3 c) (ne_3 c) (loc_xr (hb := k0_off8_inb c 2) (sh 3 c) (o8_3 c)) (gslot_of (hb := k0_off9_inb c 2) (sh 3 c) (o9_3 c)) (i := 28) (j := 17) (v := 16) (n := 24) (by revert c; decide +kernel) rfl) $$ [HS]
  · isplitr; · iexact HE
    iexact HS
  iintro ⟨G3, HS⟩
  iapply (st_xrecv m K c (sh 4 c) (ne_4 c) (loc_xr (hb := k0_off1_inb c 3) (sh 4 c) (o1_4 c)) (gslot_of (hb := k0_off10_inb c 1) (sh 4 c) (o10_4 c)) (i := 28) (j := 17) (v := 17) (n := 25) (by revert c; decide +kernel) rfl) $$ [HS]
  · isplitr; · iexact HE
    iexact HS
  iintro ⟨G4, HS⟩
  iapply (ld_g c (sh 5 c) (o11_5 c) fullShare (xpart m (sh 5 c) c)) $$ [G5]
  · iexact G5
  iintro G5
  iapply (ld_g c (sh 4 c) (o12_4 c) fullShare (xpart m (sh 4 c) c)) $$ [G4]
  · iexact G4
  iintro G4
  iapply (ld_k m c true 2 rfl) $$ [Kt2]
  · iexact Kt2
  iintro Kt2
  iapply (run_ret c _ Kt)
  iapply Hk
  isplitl [G3]; · iexact G3
  isplitl [G5]; · iexact G5
  isplitl [G4]; · iexact G4
  isplitl [Kt2]; · iexact Kt2
  iexact HS

/-- Part 18 of the kernel: from what it uses to what it leaves. -/
theorem part18 (c : Dev nD) (v448 : BitVec 32) (v450 : BitVec 32) (v481 : IVec S512x1024 8) (v483 : IVec S512x4096 8) (Xt : S512x4096.Idx → Elt F .f32) (Xf : S512x4096.Idx → Elt F .f32) (Kt : (PUnit) → sProp 𝕄) :
    iprop(Env m K ∗ keepAt m true c 3 ∗ own c (ohalf true) fullShare Xt ∗ own c (gslot (sh 3 c)) fullShare (xpart m (sh 3 c) c) ∗ own c (gslot (sh 4 c)) fullShare (xpart m (sh 4 c) c) ∗ keepAt m false c 2 ∗ keepAt m false c 3 ∗ own c (ohalf false) fullShare Xf ∗ St c 28 17 18 26)
      ⊢ iprop(((iprop(keepAt m true c 3 ∗ own c (ohalf true) fullShare (k0_pay7 v481 v483 (slab squeezes_S1x512x4096_S512x4096 (wpart m (org true c 3) true)) Xt) ∗ own c (gslot (sh 3 c)) fullShare (xpart m (sh 3 c) c) ∗ own c (gslot (sh 4 c)) fullShare (xpart m (sh 4 c) c) ∗ keepAt m false c 2 ∗ keepAt m false c 3 ∗ own c (ohalf false) fullShare (k0_pay8 (slab squeezes_S1x512x512_S512x512 (xpart m (sh 3 c) c)) (slab squeezes_S1x512x512_S512x512 (xpart m (sh 4 c) c)) (slab squeezes_S1x512x4096_S512x4096 (wpart m (org false c 2) false)) (slab squeezes_S1x512x4096_S512x4096 (wpart m (org false c 3) false)) Xf) ∗ St c 28 17 18 26) -∗ Kt ⟨⟩))
          -∗ run c (k0_part18 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v448 v450 v481 v483) Kt) := by
  rw [k0_part18_eq_skeleton]
  unfold k0_part18_skel
  simp only [Prog.lift, Prog.bind_op, Prog.bind_ret, Prog.pure_eq_ret]
  iintro ⟨#HE, Kt3, Ot, G3, G4, Kf2, Kf3, Of, HS⟩ Hk
  iapply (ld_k m c true 3 rfl) $$ [Kt3]
  · iexact Kt3
  iintro Kt3
  iapply (ld_o c true fullShare Xt) $$ [Ot]
  · iexact Ot
  iintro Ot
  iapply (ld_o c true fullShare Xt) $$ [Ot]
  · iexact Ot
  iintro Ot
  iapply (wr_o c true Xt) $$ [Ot]
  · iexact Ot
  iintro Ot
  iapply (ld_g c (sh 3 c) (o12_3 c) fullShare (xpart m (sh 3 c) c)) $$ [G3]
  · iexact G3
  iintro G3
  iapply (ld_g c (sh 4 c) (o13_4 c) fullShare (xpart m (sh 4 c) c)) $$ [G4]
  · iexact G4
  iintro G4
  iapply (ld_k m c false 2 rfl) $$ [Kf2]
  · iexact Kf2
  iintro Kf2
  iapply (ld_k m c false 3 rfl) $$ [Kf3]
  · iexact Kf3
  iintro Kf3
  iapply (ld_o c false fullShare Xf) $$ [Of]
  · iexact Of
  iintro Of
  iapply (ld_o c false fullShare Xf) $$ [Of]
  · iexact Of
  iintro Of
  iapply (wr_o c false Xf) $$ [Of]
  · iexact Of
  iintro Of
  iapply (run_ret c _ Kt)
  iapply Hk
  isplitl [Kt3]; · iexact Kt3
  isplitl [Ot]; · iexact Ot
  isplitl [G3]; · iexact G3
  isplitl [G4]; · iexact G4
  isplitl [Kf2]; · iexact Kf2
  isplitl [Kf3]; · iexact Kf3
  isplitl [Of]; · iexact Of
  iexact HS

end Cert.RingProof
-- ==== Proof.Parts3.lean ====
/-
# The parts of the kernel, to the end

Each part of the printed kernel, run by one device: the memory and the protocol's pieces it uses, and what it leaves.
-/
module

public import proofs.«01_k».proof.Proof.Views

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-- Part 19 of the kernel: from what it uses to what it leaves. -/
theorem part19 (c : Dev nD) (v5 : BitVec 32) (v7 : BitVec 32) (Kt : (PUnit) → sProp 𝕄) :
    iprop(Env m K ∗ fly c true 4 ∗ fly c false 4 ∗ keepAt m true c 2 ∗ srcAt m true c 3 ∗ keepAt m false c 2 ∗ srcAt m false c 3 ∗ St c 28 17 18 26)
      ⊢ iprop(((iprop(srcAt m true c 4 ∗ rs c true 6 ∗ srcAt m false c 4 ∗ rs c false 6 ∗ St c 30 17 18 28) -∗ Kt ⟨⟩))
          -∗ run c (k0_part19 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7) Kt) := by
  rw [k0_part19_eq_skeleton]
  unfold k0_part19_skel
  simp only [semSignalWord, semWaitWord, Prog.lift, Prog.bind_op, Prog.bind_ret, Prog.pure_eq_ret]
  iintro ⟨#HE, FLt4, FLf4, Kt2, St3, Kf2, Sf3, HS⟩ Hk
  iapply (st_sent m K c true (h := 4) (by decide) rfl rfl (i := 28) (j := 17) (v := 18) (n := 26) (by revert c; decide +kernel)) $$ [FLt4 HS]
  · isplitr; · iexact HE
    isplitl [FLt4]; · iexact FLt4
    iexact HS
  iintro ⟨St4, RSt6, HS⟩
  iapply (st_sent m K c false (h := 4) (by decide) rfl rfl (i := 28) (j := 17) (v := 18) (n := 27) (by revert c; decide +kernel)) $$ [FLf4 HS]
  · isplitr; · iexact HE
    isplitl [FLf4]; · iexact FLf4
    iexact HS
  iintro ⟨Sf4, RSf6, HS⟩
  iapply (st_credit m K c _ true 2 (by decide) (dv29 c) rfl rfl (i := 28) (j := 17) (v := 18) (p := 28) rfl) $$ [Kt2 St3 HS]
  · isplitr; · iexact HE
    isplitr [HS]
    · iapply (land_any m true c 2); iapply (land_back m true c 2); isplitl [Kt2]; · iexact Kt2
      iexact St3
    iexact HS
  iintro HS
  iapply (st_credit m K c _ false 2 (by decide) (dv30 c) rfl rfl (i := 29) (j := 17) (v := 18) (p := 28) rfl) $$ [Kf2 Sf3 HS]
  · isplitr; · iexact HE
    isplitr [HS]
    · iapply (land_any m false c 2); iapply (land_back m false c 2); isplitl [Kf2]; · iexact Kf2
      iexact Sf3
    iexact HS
  iintro HS
  iapply (run_ret c _ Kt)
  iapply Hk
  isplitl [St4]; · iexact St4
  isplitl [RSt6]; · iexact RSt6
  isplitl [Sf4]; · iexact Sf4
  isplitl [RSf6]; · iexact RSf6
  iexact HS

/-- Part 20 of the kernel: from what it uses to what it leaves. -/
theorem part20 (c : Dev nD) (v5 : BitVec 32) (v7 : BitVec 32) (Kt : (BitVec 32) → sProp 𝕄) :
    iprop(Env m K ∗ rs c true 5 ∗ St c 30 17 18 28)
      ⊢ iprop((∀ u1 : BitVec 32, (iprop(keepAt m true c 4 ∗ rdy c false 5 ∗ keepAt m false c 4 ∗ srcAt m false c 5 ∗ anyOf (nbr false c) (wslot false 1) ∗ fly c true 5 ∗ St c 31 18 22 32) -∗ Kt u1))
          -∗ run c (k0_part20 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7) Kt) := by
  rw [k0_part20_eq_skeleton]
  unfold k0_part20_skel
  simp only [semSignalWord, semWaitWord, Prog.lift, Prog.bind_op, Prog.bind_ret, Prog.pure_eq_ret]
  iintro ⟨#HE, RSt5, HS⟩ Hk
  iapply (st_recv m K c true (h := 4) (by decide) rfl rfl (i := 30) (j := 17) (v := 18) (n := 28) (by revert c; decide +kernel) rfl) $$ [HS]
  · isplitr; · iexact HE
    iexact HS
  iintro ⟨LL, RDf5, HS⟩
  ihave LL := (land_lend m true c 4) $$ LL
  icases LL with ⟨Kt4, St5⟩
  iapply (st_recv m K c false (h := 4) (by decide) rfl rfl (i := 30) (j := 17) (v := 19) (n := 29) (by revert c; decide +kernel) rfl) $$ [HS]
  · isplitr; · iexact HE
    iexact HS
  iintro ⟨LL, RDt5, HS⟩
  ihave LL := (land_lend m false c 4) $$ LL
  icases LL with ⟨Kf4, Sf5⟩
  iapply (st_free m K c true 1 (by decide) rfl rfl (i := 30) (j := 17) (v := 20) (n := 30) (by revert c; decide +kernel) rfl) $$ [HS]
  · isplitr; · iexact HE
    iexact HS
  iintro ⟨Dt1, HS⟩
  iapply (st_free m K c false 1 (by decide) rfl rfl (i := 30) (j := 17) (v := 21) (n := 31) (by revert c; decide +kernel) rfl) $$ [HS]
  · isplitr; · iexact HE
    iexact HS
  iintro ⟨Df1, HS⟩
  iapply (st_hop m K c _ true (h := 5) (by decide) (dv31 c) rfl rfl rfl rfl (i := 30) (j := 17) (v := 22) (p := 32) rfl rfl) $$ [St5 Dt1 RSt5 RDt5 HS]
  · isplitr; · iexact HE
    isplitl [St5]; · iexact St5
    isplitl [Dt1]; · iexact Dt1
    isplitl [RSt5]; · iexact RSt5
    isplitl [RDt5]; · iexact RDt5
    iexact HS
  iintro ⟨FLt5, HS⟩
  iapply (run_ret c _ Kt)
  iapply Hk
  isplitl [Kt4]; · iexact Kt4
  isplitl [RDf5]; · iexact RDf5
  isplitl [Kf4]; · iexact Kf4
  isplitl [Sf5]; · iexact Sf5
  isplitl [Df1]; · iexact Df1
  isplitl [FLt5]; · iexact FLt5
  iexact HS

/-- Part 21 of the kernel: from what it uses to what it leaves. -/
theorem part21 (c : Dev nD) (v5 : BitVec 32) (v7 : BitVec 32) (c1_i32_549 : BitVec 32) (Kt : (PUnit) → sProp 𝕄) :
    iprop(Env m K ∗ srcAt m false c 5 ∗ anyOf (nbr false c) (wslot false 1) ∗ rs c false 5 ∗ rdy c false 5 ∗ fly c true 5 ∗ St c 31 18 22 32)
      ⊢ iprop(((iprop(srcAt m true c 5 ∗ srcAt m false c 5 ∗ St c 32 19 22 34) -∗ Kt ⟨⟩))
          -∗ run c (k0_part21 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7 c1_i32_549) Kt) := by
  rw [k0_part21_eq_skeleton]
  unfold k0_part21_skel
  simp only [Prog.lift, Prog.bind_op, Prog.bind_ret, Prog.pure_eq_ret]
  iintro ⟨#HE, Sf5, Df1, RSf5, RDf5, FLt5, HS⟩ Hk
  iapply (st_hop m K c _ false (h := 5) (by decide) (dv32 c) rfl rfl rfl rfl (i := 31) (j := 18) (v := 22) (p := 32) rfl rfl) $$ [Sf5 Df1 RSf5 RDf5 HS]
  · isplitr; · iexact HE
    isplitl [Sf5]; · iexact Sf5
    isplitl [Df1]; · iexact Df1
    isplitl [RSf5]; · iexact RSf5
    isplitl [RDf5]; · iexact RDf5
    iexact HS
  iintro ⟨FLf5, HS⟩
  iapply (st_sent m K c true (h := 5) (by decide) rfl rfl (i := 32) (j := 19) (v := 22) (n := 32) (by revert c; decide +kernel)) $$ [FLt5 HS]
  · isplitr; · iexact HE
    isplitl [FLt5]; · iexact FLt5
    iexact HS
  iintro ⟨St5, RSt7, HS⟩
  iapply (st_sent m K c false (h := 5) (by decide) rfl rfl (i := 32) (j := 19) (v := 22) (n := 33) (by revert c; decide +kernel)) $$ [FLf5 HS]
  · isplitr; · iexact HE
    isplitl [FLf5]; · iexact FLf5
    iexact HS
  iintro ⟨Sf5, RSf7, HS⟩
  iapply (run_ret c _ Kt)
  iapply Hk
  isplitl [St5]; · iexact St5
  isplitl [Sf5]; · iexact Sf5
  iexact HS

/-- Part 22 of the kernel: from what it uses to what it leaves. -/
theorem part22 (c : Dev nD) (v5 : BitVec 32) (v7 : BitVec 32) (Kt : (PUnit) → sProp 𝕄) :
    iprop(Env m K ∗ rs c true 6 ∗ St c 32 19 22 34)
      ⊢ iprop(((iprop(keepAt m true c 5 ∗ rdy c false 6 ∗ keepAt m false c 5 ∗ srcAt m false c 6 ∗ anyOf (nbr false c) (wslot false 2) ∗ fly c true 6 ∗ St c 33 20 26 38) -∗ Kt ⟨⟩))
          -∗ run c (k0_part22 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v5 v7) Kt) := by
  rw [k0_part22_eq_skeleton]
  unfold k0_part22_skel
  simp only [semSignalWord, semWaitWord, Prog.lift, Prog.bind_op, Prog.bind_ret, Prog.pure_eq_ret]
  iintro ⟨#HE, RSt6, HS⟩ Hk
  iapply (st_recv m K c true (h := 5) (by decide) rfl rfl (i := 32) (j := 19) (v := 22) (n := 34) (by revert c; decide +kernel) rfl) $$ [HS]
  · isplitr; · iexact HE
    iexact HS
  iintro ⟨LL, RDf6, HS⟩
  ihave LL := (land_lend m true c 5) $$ LL
  icases LL with ⟨Kt5, St6⟩
  iapply (st_recv m K c false (h := 5) (by decide) rfl rfl (i := 32) (j := 19) (v := 23) (n := 35) (by revert c; decide +kernel) rfl) $$ [HS]
  · isplitr; · iexact HE
    iexact HS
  iintro ⟨LL, RDt6, HS⟩
  ihave LL := (land_lend m false c 5) $$ LL
  icases LL with ⟨Kf5, Sf6⟩
  iapply (st_free m K c true 2 (by decide) rfl rfl (i := 32) (j := 19) (v := 24) (n := 36) (by revert c; decide +kernel) rfl) $$ [HS]
  · isplitr; · iexact HE
    iexact HS
  iintro ⟨Dt2, HS⟩
  iapply (st_free m K c false 2 (by decide) rfl rfl (i := 32) (j := 19) (v := 25) (n := 37) (by revert c; decide +kernel) rfl) $$ [HS]
  · isplitr; · iexact HE
    iexact HS
  iintro ⟨Df2, HS⟩
  iapply (st_hop m K c _ true (h := 6) (by decide) (dv33 c) rfl rfl rfl rfl (i := 32) (j := 19) (v := 26) (p := 38) rfl rfl) $$ [St6 Dt2 RSt6 RDt6 HS]
  · isplitr; · iexact HE
    isplitl [St6]; · iexact St6
    isplitl [Dt2]; · iexact Dt2
    isplitl [RSt6]; · iexact RSt6
    isplitl [RDt6]; · iexact RDt6
    iexact HS
  iintro ⟨FLt6, HS⟩
  iapply (run_ret c _ Kt)
  iapply Hk
  isplitl [Kt5]; · iexact Kt5
  isplitl [RDf6]; · iexact RDf6
  isplitl [Kf5]; · iexact Kf5
  isplitl [Sf6]; · iexact Sf6
  isplitl [Df2]; · iexact Df2
  isplitl [FLt6]; · iexact FLt6
  iexact HS

/-- Part 23 of the kernel: from what it uses to what it leaves. -/
theorem part23 (c : Dev nD) (v2 : BitVec 32) (v5 : BitVec 32) (Kt : (Σ' (v634 : BitVec 32) (v636 : BitVec 32) (v643 : IVec S512x1024 8), IVec S512x4096 8) → sProp 𝕄) :
    iprop(Env m K ∗ srcAt m false c 6 ∗ anyOf (nbr false c) (wslot false 2) ∗ rs c false 6 ∗ rdy c false 6 ∗ own c (gslot (sh 3 c)) fullShare (xpart m (sh 3 c) c) ∗ own c (gslot (sh 2 c)) fullShare (xpart m (sh 2 c) c) ∗ keepAt m true c 4 ∗ St c 33 20 26 38)
      ⊢ iprop((∀ u1 : BitVec 32, ∀ u2 : BitVec 32, (iprop(fly c false 6 ∗ own c (gslot (sh 3 c)) fullShare (xpart m (sh 3 c) c) ∗ own c (gslot (sh 2 c)) fullShare (xpart m (sh 2 c) c) ∗ keepAt m true c 4 ∗ St c 34 21 26 38) -∗ Kt ⟨u1, u2, (k0_pay9 (slab squeezes_S1x512x512_S512x512 (xpart m (sh 3 c) c)) (slab squeezes_S1x512x512_S512x512 (xpart m (sh 2 c) c))), (k0_pay10 (slab squeezes_S1x512x4096_S512x4096 (wpart m (org true c 4) true)))⟩))
          -∗ run c (k0_part23 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2 v5) Kt) := by
  rw [k0_part23_eq_skeleton]
  unfold k0_part23_skel
  simp only [Prog.lift, Prog.bind_op, Prog.bind_ret, Prog.pure_eq_ret]
  iintro ⟨#HE, Sf6, Df2, RSf6, RDf6, G3, G2, Kt4, HS⟩ Hk
  iapply (st_hop m K c _ false (h := 6) (by decide) (dv34 c) rfl rfl rfl rfl (i := 33) (j := 20) (v := 26) (p := 38) rfl rfl) $$ [Sf6 Df2 RSf6 RDf6 HS]
  · isplitr; · iexact HE
    isplitl [Sf6]; · iexact Sf6
    isplitl [Df2]; · iexact Df2
    isplitl [RSf6]; · iexact RSf6
    isplitl [RDf6]; · iexact RDf6
    iexact HS
  iintro ⟨FLf6, HS⟩
  iapply (ld_g c (sh 3 c) (o11_3 c) fullShare (xpart m (sh 3 c) c)) $$ [G3]
  · iexact G3
  iintro G3
  iapply (ld_g c (sh 2 c) (o12_2 c) fullShare (xpart m (sh 2 c) c)) $$ [G2]
  · iexact G2
  iintro G2
  iapply (ld_k m c true 4 rfl) $$ [Kt4]
  · iexact Kt4
  iintro Kt4
  iapply (run_ret c _ Kt)
  iapply Hk
  isplitl [FLf6]; · iexact FLf6
  isplitl [G3]; · iexact G3
  isplitl [G2]; · iexact G2
  isplitl [Kt4]; · iexact Kt4
  iexact HS

/-- Part 24 of the kernel: from what it uses to what it leaves. -/
theorem part24 (c : Dev nD) (v634 : BitVec 32) (v636 : BitVec 32) (v643 : IVec S512x1024 8) (v645 : IVec S512x4096 8) (Xt : S512x4096.Idx → Elt F .f32) (Xf : S512x4096.Idx → Elt F .f32) (Kt : (PUnit) → sProp 𝕄) :
    iprop(Env m K ∗ keepAt m true c 5 ∗ own c (ohalf true) fullShare Xt ∗ own c (gslot (sh 5 c)) fullShare (xpart m (sh 5 c) c) ∗ own c (gslot (sh 6 c)) fullShare (xpart m (sh 6 c) c) ∗ keepAt m false c 4 ∗ keepAt m false c 5 ∗ own c (ohalf false) fullShare Xf ∗ St c 34 21 26 38)
      ⊢ iprop(((iprop(keepAt m true c 5 ∗ own c (ohalf true) fullShare (k0_pay11 v643 v645 (slab squeezes_S1x512x4096_S512x4096 (wpart m (org true c 5) true)) Xt) ∗ own c (gslot (sh 5 c)) fullShare (xpart m (sh 5 c) c) ∗ own c (gslot (sh 6 c)) fullShare (xpart m (sh 6 c) c) ∗ keepAt m false c 4 ∗ keepAt m false c 5 ∗ own c (ohalf false) fullShare (k0_pay12 (slab squeezes_S1x512x512_S512x512 (xpart m (sh 5 c) c)) (slab squeezes_S1x512x512_S512x512 (xpart m (sh 6 c) c)) (slab squeezes_S1x512x4096_S512x4096 (wpart m (org false c 4) false)) (slab squeezes_S1x512x4096_S512x4096 (wpart m (org false c 5) false)) Xf) ∗ St c 34 21 26 38) -∗ Kt ⟨⟩))
          -∗ run c (k0_part24 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v634 v636 v643 v645) Kt) := by
  rw [k0_part24_eq_skeleton]
  unfold k0_part24_skel
  simp only [Prog.lift, Prog.bind_op, Prog.bind_ret, Prog.pure_eq_ret]
  iintro ⟨#HE, Kt5, Ot, G5, G6, Kf4, Kf5, Of, HS⟩ Hk
  iapply (ld_k m c true 5 rfl) $$ [Kt5]
  · iexact Kt5
  iintro Kt5
  iapply (ld_o c true fullShare Xt) $$ [Ot]
  · iexact Ot
  iintro Ot
  iapply (ld_o c true fullShare Xt) $$ [Ot]
  · iexact Ot
  iintro Ot
  iapply (wr_o c true Xt) $$ [Ot]
  · iexact Ot
  iintro Ot
  iapply (ld_g c (sh 5 c) (o12_5 c) fullShare (xpart m (sh 5 c) c)) $$ [G5]
  · iexact G5
  iintro G5
  iapply (ld_g c (sh 6 c) (o13_6 c) fullShare (xpart m (sh 6 c) c)) $$ [G6]
  · iexact G6
  iintro G6
  iapply (ld_k m c false 4 rfl) $$ [Kf4]
  · iexact Kf4
  iintro Kf4
  iapply (ld_k m c false 5 rfl) $$ [Kf5]
  · iexact Kf5
  iintro Kf5
  iapply (ld_o c false fullShare Xf) $$ [Of]
  · iexact Of
  iintro Of
  iapply (ld_o c false fullShare Xf) $$ [Of]
  · iexact Of
  iintro Of
  iapply (wr_o c false Xf) $$ [Of]
  · iexact Of
  iintro Of
  iapply (run_ret c _ Kt)
  iapply Hk
  isplitl [Kt5]; · iexact Kt5
  isplitl [Ot]; · iexact Ot
  isplitl [G5]; · iexact G5
  isplitl [G6]; · iexact G6
  isplitl [Kf4]; · iexact Kf4
  isplitl [Kf5]; · iexact Kf5
  isplitl [Of]; · iexact Of
  iexact HS

/-- Part 25 of the kernel: from what it uses to what it leaves. -/
theorem part25 (c : Dev nD) (v5 : BitVec 32) (v7 : BitVec 32) (Kt : (PUnit) → sProp 𝕄) :
    iprop(Env m K ∗ fly c true 6 ∗ fly c false 6 ∗ St c 34 21 26 38)
      ⊢ iprop(((iprop(srcAt m true c 6 ∗ srcAt m false c 6 ∗ keepAt m true c 6 ∗ srcAt m true c 7 ∗ St c 34 21 27 41) -∗ Kt ⟨⟩))
          -∗ run c (k0_part25 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 v5 v7) Kt) := by
  rw [k0_part25_eq_skeleton]
  unfold k0_part25_skel
  simp only [Prog.lift, Prog.bind_op, Prog.bind_ret, Prog.pure_eq_ret]
  iintro ⟨#HE, FLt6, FLf6, HS⟩ Hk
  iapply (st_sent m K c true (h := 6) (by decide) rfl rfl (i := 34) (j := 21) (v := 26) (n := 38) (by revert c; decide +kernel)) $$ [FLt6 HS]
  · isplitr; · iexact HE
    isplitl [FLt6]; · iexact FLt6
    iexact HS
  iintro ⟨St6, RSt8, HS⟩
  iapply (st_sent m K c false (h := 6) (by decide) rfl rfl (i := 34) (j := 21) (v := 26) (n := 39) (by revert c; decide +kernel)) $$ [FLf6 HS]
  · isplitr; · iexact HE
    isplitl [FLf6]; · iexact FLf6
    iexact HS
  iintro ⟨Sf6, RSf8, HS⟩
  iapply (st_recv m K c true (h := 6) (by decide) rfl rfl (i := 34) (j := 21) (v := 26) (n := 40) (by revert c; decide +kernel) rfl) $$ [HS]
  · isplitr; · iexact HE
    iexact HS
  iintro ⟨LL, RDf7, HS⟩
  ihave LL := (land_lend m true c 6) $$ LL
  icases LL with ⟨Kt6, St7⟩
  iapply (run_ret c _ Kt)
  iapply Hk
  isplitl [St6]; · iexact St6
  isplitl [Sf6]; · iexact Sf6
  isplitl [Kt6]; · iexact Kt6
  isplitl [St7]; · iexact St7
  iexact HS

/-- Part 26 of the kernel: from what it uses to what it leaves. -/
theorem part26 (c : Dev nD) (v2 : BitVec 32) (Xt : S512x4096.Idx → Elt F .f32) (Xf : S512x4096.Idx → Elt F .f32) (sa sb : Elt F .f32) (Kt : (Σ' (v705 : F .f32) (v726 : FVec F S512x4096 .f32) (v730 : FVec F S512x512 .bf16), FVec F S512x4096 .bf16) → sProp 𝕄) :
    iprop(Env m K ∗ own c aW fullShare (fun _ => sa) ∗ own c bW fullShare (fun _ => sb) ∗ own c (ohalf true) fullShare Xt ∗ own c (gslot (sh 1 c)) fullShare (xpart m (sh 1 c) c) ∗ keepAt m true c 6 ∗ own c (ohalf false) fullShare Xf ∗ own c (gslot (sh 7 c)) fullShare (xpart m (sh 7 c) c) ∗ St c 34 21 27 41)
      ⊢ iprop(((iprop(srcAt m false c 7 ∗ own c aW fullShare (fun _ => sa) ∗ own c bW fullShare (fun _ => sb) ∗ own c (gslot (sh 1 c)) fullShare (xpart m (sh 1 c) c) ∗ keepAt m true c 6 ∗ own c (ohalf true) fullShare (k0_pay14 sa sb Xt (slab squeezes_S1x512x512_S512x512 (xpart m (sh 1 c) c)) (slab squeezes_S1x512x4096_S512x4096 (wpart m (org true c 6) true))) ∗ own c (ohalf false) fullShare Xf ∗ own c (gslot (sh 7 c)) fullShare (xpart m (sh 7 c) c) ∗ keepAt m false c 6 ∗ St c 34 21 28 42) -∗ Kt ⟨(k0_pay13 sa sb), (k0_pay15 Xf), (k0_pay16 (slab squeezes_S1x512x512_S512x512 (xpart m (sh 7 c) c))), (k0_pay17 (slab squeezes_S1x512x4096_S512x4096 (wpart m (org false c 6) false)))⟩))
          -∗ run c (k0_part26 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v2) Kt) := by
  rw [k0_part26_eq_skeleton]
  unfold k0_part26_skel
  simp only [smemLoad, smemLoadElt, Prog.lift, Prog.bind_op, Prog.bind_ret, Prog.pure_eq_ret]
  iintro ⟨#HE, AA, BB, Ot, G1, Kt6, Of, G7, HS⟩ Hk
  iapply (st_recv m K c false (h := 6) (by decide) rfl rfl (i := 34) (j := 21) (v := 27) (n := 41) (by revert c; decide +kernel) rfl) $$ [HS]
  · isplitr; · iexact HE
    iexact HS
  iintro ⟨LL, RDt7, HS⟩
  ihave LL := (land_lend m false c 6) $$ LL
  icases LL with ⟨Kf6, Sf7⟩
  iapply (ld_a c fullShare (fun _ => sa)) $$ [AA]
  · iexact AA
  iintro AA
  iapply (ld_b c fullShare (fun _ => sb)) $$ [BB]
  · iexact BB
  iintro BB
  iapply (ld_o c true fullShare Xt) $$ [Ot]
  · iexact Ot
  iintro Ot
  iapply (ld_g c (sh 1 c) (o13_1 c) fullShare (xpart m (sh 1 c) c)) $$ [G1]
  · iexact G1
  iintro G1
  iapply (ld_k m c true 6 rfl) $$ [Kt6]
  · iexact Kt6
  iintro Kt6
  iapply (ld_o c true fullShare Xt) $$ [Ot]
  · iexact Ot
  iintro Ot
  iapply (wr_o c true Xt) $$ [Ot]
  · iexact Ot
  iintro Ot
  iapply (ld_o c false fullShare Xf) $$ [Of]
  · iexact Of
  iintro Of
  iapply (ld_g c (sh 7 c) (o12_7 c) fullShare (xpart m (sh 7 c) c)) $$ [G7]
  · iexact G7
  iintro G7
  iapply (ld_k m c false 6 rfl) $$ [Kf6]
  · iexact Kf6
  iintro Kf6
  iapply (run_ret c _ Kt)
  iapply Hk
  isplitl [Sf7]; · iexact Sf7
  isplitl [AA]; · iexact AA
  isplitl [BB]; · iexact BB
  isplitl [G1]; · iexact G1
  isplitl [Kt6]; · iexact Kt6
  isplitl [Ot]; · iexact Ot
  isplitl [Of]; · iexact Of
  isplitl [G7]; · iexact G7
  isplitl [Kf6]; · iexact Kf6
  iexact HS

/-- Part 27 of the kernel: from what it uses to what it leaves. -/
theorem part27 (c : Dev nD) (v705 : F .f32) (v726 : FVec F S512x4096 .f32) (v730 : FVec F S512x512 .bf16) (v733 : FVec F S512x4096 .bf16) (Xf : S512x4096.Idx → Elt F .f32) (Kt : (PUnit) → sProp 𝕄) :
    iprop(Env m K ∗ own c (ohalf false) fullShare Xf ∗ crd c (.xs (sh 1 c), 0) ∗ crd c (.xs (sh 2 c), 0) ∗ crd c (.xs (sh 3 c), 0) ∗ crd c (.xs (sh 4 c), 0) ∗ crd c (.xs (sh 5 c), 0) ∗ St c 34 21 28 42)
      ⊢ iprop(((iprop(own c (ohalf false) fullShare (k0_pay18 v705 v726 v730 v733) ∗ own c (xblk (sh 1 c)) fullShare (xpart m c (sh 1 c)) ∗ own c (xblk (sh 2 c)) fullShare (xpart m c (sh 2 c)) ∗ own c (xblk (sh 3 c)) fullShare (xpart m c (sh 3 c)) ∗ own c (xblk (sh 4 c)) fullShare (xpart m c (sh 4 c)) ∗ own c (xblk (sh 5 c)) fullShare (xpart m c (sh 5 c)) ∗ St c 34 21 28 47) -∗ Kt ⟨⟩))
          -∗ run c (k0_part27 xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10 c v705 v726 v730 v733) Kt) := by
  rw [k0_part27_eq_skeleton]
  unfold k0_part27_skel
  simp only [Prog.lift, Prog.bind_op, Prog.bind_ret, Prog.pure_eq_ret]
  iintro ⟨#HE, Of, CX1, CX2, CX3, CX4, CX5, HS⟩ Hk
  iapply (ld_o c false fullShare Xf) $$ [Of]
  · iexact Of
  iintro Of
  iapply (wr_o c false Xf) $$ [Of]
  · iexact Of
  iintro Of
  iapply (st_xsent m K c (sh 1 c) (ne_1 c) (loc_xs (hb := k0_off1_inb c 0) (sh 1 c) (o1_1 c)) (xblk_of (hb := k0_off4_inb c 0) (sh 1 c) (o4_1 c)) (i := 34) (j := 21) (v := 28) (n := 42) (by revert c; decide +kernel)) $$ [CX1 HS]
  · isplitr; · iexact HE
    isplitl [CX1]; · iexact CX1
    iexact HS
  iintro ⟨X1, HS⟩
  iapply (st_xsent m K c (sh 2 c) (ne_2 c) (loc_xs (hb := k0_off1_inb c 1) (sh 2 c) (o1_2 c)) (xblk_of (hb := k0_off4_inb c 1) (sh 2 c) (o4_2 c)) (i := 34) (j := 21) (v := 28) (n := 43) (by revert c; decide +kernel)) $$ [CX2 HS]
  · isplitr; · iexact HE
    isplitl [CX2]; · iexact CX2
    iexact HS
  iintro ⟨X2, HS⟩
  iapply (st_xsent m K c (sh 3 c) (ne_3 c) (loc_xs (hb := k0_off1_inb c 2) (sh 3 c) (o1_3 c)) (xblk_of (hb := k0_off4_inb c 2) (sh 3 c) (o4_3 c)) (i := 34) (j := 21) (v := 28) (n := 44) (by revert c; decide +kernel)) $$ [CX3 HS]
  · isplitr; · iexact HE
    isplitl [CX3]; · iexact CX3
    iexact HS
  iintro ⟨X3, HS⟩
  iapply (st_xsent m K c (sh 4 c) (ne_4 c) (loc_xs (hb := k0_off1_inb c 3) (sh 4 c) (o1_4 c)) (xblk_of (hb := k0_off4_inb c 3) (sh 4 c) (o4_4 c)) (i := 34) (j := 21) (v := 28) (n := 45) (by revert c; decide +kernel)) $$ [CX4 HS]
  · isplitr; · iexact HE
    isplitl [CX4]; · iexact CX4
    iexact HS
  iintro ⟨X4, HS⟩
  iapply (st_xsent m K c (sh 5 c) (ne_5 c) (loc_xs (hb := k0_off1_inb c 4) (sh 5 c) (o1_5 c)) (xblk_of (hb := k0_off4_inb c 4) (sh 5 c) (o4_5 c)) (i := 34) (j := 21) (v := 28) (n := 46) (by revert c; decide +kernel)) $$ [CX5 HS]
  · isplitr; · iexact HE
    isplitl [CX5]; · iexact CX5
    iexact HS
  iintro ⟨X5, HS⟩
  iapply (run_ret c _ Kt)
  iapply Hk
  isplitl [Of]; · iexact Of
  isplitl [X1]; · iexact X1
  isplitl [X2]; · iexact X2
  isplitl [X3]; · iexact X3
  isplitl [X4]; · iexact X4
  isplitl [X5]; · iexact X5
  iexact HS

end Cert.RingProof
-- ==== Proof.Body.lean ====
/-
# The kernel's body on one device

The parts in turn: from what a device holds when the body starts to what it holds when it ends, with the two halves
of the result that it has then accumulated.
-/
module

public import proofs.«01_k».proof.Proof.Split
public import proofs.«01_k».proof.Proof.Parts1
public import proofs.«01_k».proof.Proof.Parts2
public import proofs.«01_k».proof.Proof.Parts3

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-- A program that goes on: its first part, then the rest. -/
theorem run_bind {α β : Type} (c : Dev nD) (p : Prog (TpuEff nD τ sig (Elt F) Λ₀ .tc) α) (k : α → Prog (TpuEff nD τ sig (Elt F) Λ₀ .tc) β)
    (Kt : β → sProp 𝕄) : run c p (fun a => run c (k a) Kt) ⊢ run c (p >>= k) Kt := by
  unfold run; rw [wp_bind]

/-! ## The result as it accumulates -/

/-- The block of x gathered from the device j places on, as it is loaded. -/
def gx (c : Dev nD) (j : ℕ) : S1x512x512.Idx → Elt F .i8 := slab squeezes_S1x512x512_S512x512 (xpart m (sh j c) c)
/-- The half of the weights that hop h of direction d brings, as it is loaded. -/
def gw (c : Dev nD) (d : Bool) (h : ℕ) : S1x512x4096.Idx → Elt F .i8 := slab squeezes_S1x512x4096_S512x4096 (wpart m (org d c h) d)

/-- The device's own product, and its halves. -/
def acc0 (c : Dev nD) : S512x8192.Idx → Elt F .f32 := k0_pay1 (xpart m c c) (wstg m c)
/-- The half of the result that direction d fills, after the first two hops, -/
def acc1 (c : Dev nD) : (d : Bool) → S512x4096.Idx → Elt F .f32
  | true => k0_pay3 (k0_pay2 (gx m c 7)) (gx m c 6) (gw m c true 0) (gw m c true 1) (cut true (acc0 m c))
  | false => k0_pay4 (gx m c 1) (gx m c 2) (gw m c false 0) (gw m c false 1) (cut false (acc0 m c))
/-- after four, -/
def acc2 (c : Dev nD) : (d : Bool) → S512x4096.Idx → Elt F .f32
  | true => k0_pay7 (k0_pay5 (gx m c 5) (gx m c 4)) (k0_pay6 (gw m c true 2)) (gw m c true 3) (acc1 m c true)
  | false => k0_pay8 (gx m c 3) (gx m c 4) (gw m c false 2) (gw m c false 3) (acc1 m c false)
/-- after six, -/
def acc3 (c : Dev nD) : (d : Bool) → S512x4096.Idx → Elt F .f32
  | true => k0_pay11 (k0_pay9 (gx m c 3) (gx m c 2)) (k0_pay10 (gw m c true 4)) (gw m c true 5) (acc2 m c true)
  | false => k0_pay12 (gx m c 5) (gx m c 6) (gw m c false 4) (gw m c false 5) (acc2 m c false)
/-- and at the end, scaled. -/
def acc4 (sa sb : Elt F .f32) (c : Dev nD) : (d : Bool) → S512x4096.Idx → Elt F .f32
  | true => k0_pay14 sa sb (acc3 m c true) (gx m c 1) (gw m c true 6)
  | false => k0_pay18 (k0_pay13 sa sb) (k0_pay15 (acc3 m c false)) (k0_pay16 (gx m c 7)) (k0_pay17 (gw m c false 6))

/-- The body on one device. -/
theorem body_run (c : Dev nD) (sa sb : Elt F .f32) (Ov : S512x8192.Idx → Elt F .f32) (Kt : PUnit → sProp 𝕄) :
    iprop(Env m K ∗ anyOf c (gslot (sh 1 c)) ∗ anyOf c (gslot (sh 2 c)) ∗ anyOf c (gslot (sh 3 c)) ∗ anyOf c (gslot (sh 4 c)) ∗ anyOf c (gslot (sh 5 c)) ∗ anyOf c (gslot (sh 6 c)) ∗ anyOf c (gslot (sh 7 c)) ∗ slots true c ∗ slots false c ∗ srcAt m true c 0 ∗ srcAt m false c 0 ∗ own c (xblk (sh 1 c)) fullShare (xpart m c (sh 1 c)) ∗ own c (xblk (sh 2 c)) fullShare (xpart m c (sh 2 c)) ∗ own c (xblk (sh 3 c)) fullShare (xpart m c (sh 3 c)) ∗ own c (xblk (sh 4 c)) fullShare (xpart m c (sh 4 c)) ∗ own c (xblk (sh 5 c)) fullShare (xpart m c (sh 5 c)) ∗ own c (xblk (sh 6 c)) fullShare (xpart m c (sh 6 c)) ∗ own c (xblk (sh 7 c)) fullShare (xpart m c (sh 7 c)) ∗ own c (xblk c) fullShare (xpart m c c) ∗ own c wW fullShare.left (wstg m c) ∗ own c oW fullShare Ov ∗ own c aW fullShare (fun _ => sa) ∗ own c bW fullShare (fun _ => sb) ∗ St c 0 0 0 0)
      ⊢ iprop((iprop(own c (xblk (sh 1 c)) fullShare (xpart m c (sh 1 c)) ∗ own c (xblk (sh 2 c)) fullShare (xpart m c (sh 2 c)) ∗ own c (xblk (sh 3 c)) fullShare (xpart m c (sh 3 c)) ∗ own c (xblk (sh 4 c)) fullShare (xpart m c (sh 4 c)) ∗ own c (xblk (sh 5 c)) fullShare (xpart m c (sh 5 c)) ∗ own c (xblk (sh 6 c)) fullShare (xpart m c (sh 6 c)) ∗ own c (xblk (sh 7 c)) fullShare (xpart m c (sh 7 c)) ∗ own c (xblk c) fullShare (xpart m c c) ∗ own c wW fullShare.left (wstg m c) ∗ srcAt m true c 0 ∗ srcAt m false c 0 ∗ keepAt m true c 3 ∗ keepAt m true c 4 ∗ keepAt m true c 5 ∗ keepAt m true c 6 ∗ srcAt m true c 4 ∗ srcAt m true c 5 ∗ srcAt m true c 6 ∗ srcAt m true c 7 ∗ keepAt m false c 3 ∗ keepAt m false c 4 ∗ keepAt m false c 5 ∗ keepAt m false c 6 ∗ srcAt m false c 4 ∗ srcAt m false c 5 ∗ srcAt m false c 6 ∗ srcAt m false c 7 ∗ own c (gslot (sh 1 c)) fullShare (xpart m (sh 1 c) c) ∗ own c (gslot (sh 2 c)) fullShare (xpart m (sh 2 c) c) ∗ own c (gslot (sh 3 c)) fullShare (xpart m (sh 3 c) c) ∗ own c (gslot (sh 4 c)) fullShare (xpart m (sh 4 c) c) ∗ own c (gslot (sh 5 c)) fullShare (xpart m (sh 5 c) c) ∗ own c (gslot (sh 6 c)) fullShare (xpart m (sh 6 c) c) ∗ own c (gslot (sh 7 c)) fullShare (xpart m (sh 7 c) c) ∗ own c (ohalf true) fullShare (acc4 m sa sb c true) ∗ own c (ohalf false) fullShare (acc4 m sa sb c false) ∗ own c aW fullShare (fun _ => sa) ∗ own c bW fullShare (fun _ => sb) ∗ St c 34 21 28 49) -∗ Kt ⟨⟩)
          -∗ run c (cc0_body xM (Memref.isWhole_whole _) wM (Memref.isWhole_whole _) aM (Memref.isWhole_whole _) bM (Memref.isWhole_whole _) oM (Memref.isWhole_whole _) gM (Memref.isWhole_whole _) fM (Memref.isWhole_whole _) hM (Memref.isWhole_whole _) cc0_scratch3 cc0_scratch4 cc0_scratch5 cc0_scratch6 cc0_scratch7 cc0_scratch8 cc0_scratch9 cc0_scratch10) Kt) := by
  rw [cc0_body_eq_skeleton]
  unfold cc0_body_skel
  iintro ⟨#HE, M1, M2, M3, M4, M5, M6, M7, SLt, SLf, St0, Sf0, X1, X2, X3, X4, X5, X6, X7, XX, WL, OW, AA, BB, HS⟩ Hk
  iapply (run_bind c)
  iapply (part1 m K c _) $$ [M1 SLf M2 M3 M4 HS]
  · isplitr; · iexact HE
    isplitl [M1]; · iexact M1
    isplitl [SLf]; · iexact SLf
    isplitl [M2]; · iexact M2
    isplitl [M3]; · iexact M3
    isplitl [M4]; · iexact M4
    iexact HS
  iintro %u1_1 %u2_1 %u3_1 %u4_1 %u5_1
  iintro HS
  iapply (run_bind c)
  iapply (part2 m K c _ _ _ _ _ _) $$ [M5 M6 M7 SLt St0 HS]
  · isplitr; · iexact HE
    isplitl [M5]; · iexact M5
    isplitl [M6]; · iexact M6
    isplitl [M7]; · iexact M7
    isplitl [SLt]; · iexact SLt
    isplitl [St0]; · iexact St0
    iexact HS
  iintro ⟨T1, T2, T3, T4, T5, T6, T7, Dt1, Dt2, Dt3, Df0, Df1, Df2, Df3, FLt0, HS⟩
  iapply (run_bind c)
  iapply (part3 m K c _ _) $$ [Sf0 Df0 X1 T1 X2 T2 HS]
  · isplitr; · iexact HE
    isplitl [Sf0]; · iexact Sf0
    isplitl [Df0]; · iexact Df0
    isplitl [X1]; · iexact X1
    isplitl [T1]; · iexact T1
    isplitl [X2]; · iexact X2
    isplitl [T2]; · iexact T2
    iexact HS
  iintro ⟨FLf0, CX1, CX2, HS⟩
  iapply (run_bind c)
  iapply (part4 m K c _ _) $$ [X3 T3 X4 T4 X5 T5 HS]
  · isplitr; · iexact HE
    isplitl [X3]; · iexact X3
    isplitl [T3]; · iexact T3
    isplitl [X4]; · iexact X4
    isplitl [T4]; · iexact T4
    isplitl [X5]; · iexact X5
    isplitl [T5]; · iexact T5
    iexact HS
  iintro %u1_4 %u2_4
  iintro ⟨CX3, CX4, CX5, HS⟩
  iapply (run_bind c)
  iapply (part5 m K c _ _ _ _ _ _) $$ [X6 T6 X7 T7 XX WL OW HS]
  · isplitr; · iexact HE
    isplitl [X6]; · iexact X6
    isplitl [T6]; · iexact T6
    isplitl [X7]; · iexact X7
    isplitl [T7]; · iexact T7
    isplitl [XX]; · iexact XX
    isplitl [WL]; · iexact WL
    isplitl [OW]; · iexact OW
    iexact HS
  iintro ⟨CX6, CX7, XX, WL, OW, HS⟩
  ihave HO := (oW_split c _) $$ OW
  icases HO with ⟨Ot, Of⟩
  iapply (run_bind c)
  iapply (part6 m K c _ _ _) $$ [FLt0 FLf0 HS]
  · isplitr; · iexact HE
    isplitl [FLt0]; · iexact FLt0
    isplitl [FLf0]; · iexact FLf0
    iexact HS
  iintro %u1_6
  iintro ⟨St0, RSt2, Sf0, RSf2, Kt0, St1, RDf1, Kf0, Sf1, RDt1, HS⟩
  iapply (run_bind c)
  iapply (part7 m K c _ _ _ _) $$ [St1 Dt1 RDt1 Sf1 Df1 RDf1 HS]
  · isplitr; · iexact HE
    isplitl [St1]; · iexact St1
    isplitl [Dt1]; · iexact Dt1
    isplitl [RDt1]; · iexact RDt1
    isplitl [Sf1]; · iexact Sf1
    isplitl [Df1]; · iexact Df1
    isplitl [RDf1]; · iexact RDf1
    iexact HS
  iintro ⟨FLf1, St1, RSt3, HS⟩
  iapply (run_bind c)
  iapply (part8 m K c _ _ _) $$ [FLf1 HS]
  · isplitr; · iexact HE
    isplitl [FLf1]; · iexact FLf1
    iexact HS
  iintro ⟨Sf1, RSf3, Kt1, St2, RDf2, Kf1, Sf2, RDt2, HS⟩
  iapply (run_bind c)
  iapply (part9 m K c _ _ _) $$ [St2 Dt2 RSt2 RDt2 Sf2 Df2 RSf2 RDf2 HS]
  · isplitr; · iexact HE
    isplitl [St2]; · iexact St2
    isplitl [Dt2]; · iexact Dt2
    isplitl [RSt2]; · iexact RSt2
    isplitl [RDt2]; · iexact RDt2
    isplitl [Sf2]; · iexact Sf2
    isplitl [Df2]; · iexact Df2
    isplitl [RSf2]; · iexact RSf2
    isplitl [RDf2]; · iexact RDf2
    iexact HS
  iintro %u1_9 %u2_9 %u3_9 %u4_9
  iintro ⟨FLt2, FLf2, HS⟩
  iapply (run_bind c)
  iapply (part10 m K c _ _ _ _) $$ [HS]
  · isplitr; · iexact HE
    iexact HS
  iintro ⟨G6, G1, G2, G7, HS⟩
  iapply (run_bind c)
  iapply (part11 m K c _ _ _ _ _ _) $$ [G6 Kt0 Kt1 Ot G1 G2 Kf0 Kf1 Of HS]
  · isplitr; · iexact HE
    isplitl [G6]; · iexact G6
    isplitl [Kt0]; · iexact Kt0
    isplitl [Kt1]; · iexact Kt1
    isplitl [Ot]; · iexact Ot
    isplitl [G1]; · iexact G1
    isplitl [G2]; · iexact G2
    isplitl [Kf0]; · iexact Kf0
    isplitl [Kf1]; · iexact Kf1
    isplitl [Of]; · iexact Of
    iexact HS
  iintro ⟨G6, Kt0, Kt1, Ot, G1, G2, Kf0, Kf1, Of, HS⟩
  iapply (run_bind c)
  iapply (part12 m K c _ _ _ _ _) $$ [Of FLt2 FLf2 Kt0 St1 Kf0 Sf1 HS]
  · isplitr; · iexact HE
    isplitl [Of]; · iexact Of
    isplitl [FLt2]; · iexact FLt2
    isplitl [FLf2]; · iexact FLf2
    isplitl [Kt0]; · iexact Kt0
    isplitl [St1]; · iexact St1
    isplitl [Kf0]; · iexact Kf0
    isplitl [Sf1]; · iexact Sf1
    iexact HS
  iintro %u1_12 %u2_12
  iintro ⟨Of, St2, RSt4, Sf2, RSf4, HS⟩
  iapply (run_bind c)
  iapply (part13 m K c _ _ _ _ _) $$ [Kt1 St2 Kf1 Sf2 HS]
  · isplitr; · iexact HE
    isplitl [Kt1]; · iexact Kt1
    isplitl [St2]; · iexact St2
    isplitl [Kf1]; · iexact Kf1
    isplitl [Sf2]; · iexact Sf2
    iexact HS
  iintro ⟨Kt2, St3, RDf3, Kf2, Sf3, RDt3, HS⟩
  iapply (run_bind c)
  iapply (part14 m K c _ _) $$ [St3 Dt3 RSt3 RDt3 Sf3 Df3 RSf3 RDf3 HS]
  · isplitr; · iexact HE
    isplitl [St3]; · iexact St3
    isplitl [Dt3]; · iexact Dt3
    isplitl [RSt3]; · iexact RSt3
    isplitl [RDt3]; · iexact RDt3
    isplitl [Sf3]; · iexact Sf3
    isplitl [Df3]; · iexact Df3
    isplitl [RSf3]; · iexact RSf3
    isplitl [RDf3]; · iexact RDf3
    iexact HS
  iintro ⟨FLf3, St3, RSt5, HS⟩
  iapply (run_bind c)
  iapply (part15 m K c _ _ _) $$ [FLf3 HS]
  · isplitr; · iexact HE
    isplitl [FLf3]; · iexact FLf3
    iexact HS
  iintro %u1_15 %u2_15
  iintro ⟨Sf3, RSf5, Kt3, St4, RDf4, Kf3, Sf4, RDt4, Dt0, Df0, HS⟩
  iapply (run_bind c)
  iapply (part16 m K c _ _ _ _ _) $$ [St4 Dt0 RSt4 RDt4 Sf4 Df0 RSf4 RDf4 HS]
  · isplitr; · iexact HE
    isplitl [St4]; · iexact St4
    isplitl [Dt0]; · iexact Dt0
    isplitl [RSt4]; · iexact RSt4
    isplitl [RDt4]; · iexact RDt4
    isplitl [Sf4]; · iexact Sf4
    isplitl [Df0]; · iexact Df0
    isplitl [RSf4]; · iexact RSf4
    isplitl [RDf4]; · iexact RDf4
    iexact HS
  iintro %u1_16 %u2_16 %u3_16 %u4_16 %u5_16
  iintro ⟨FLt4, FLf4, HS⟩
  iapply (run_bind c)
  iapply (part17 m K c _ _ _ _ _) $$ [Kt2 HS]
  · isplitr; · iexact HE
    isplitl [Kt2]; · iexact Kt2
    iexact HS
  iintro ⟨G3, G5, G4, Kt2, HS⟩
  iapply (run_bind c)
  iapply (part18 m K c _ _ _ _ _ _ _) $$ [Kt3 Ot G3 G4 Kf2 Kf3 Of HS]
  · isplitr; · iexact HE
    isplitl [Kt3]; · iexact Kt3
    isplitl [Ot]; · iexact Ot
    isplitl [G3]; · iexact G3
    isplitl [G4]; · iexact G4
    isplitl [Kf2]; · iexact Kf2
    isplitl [Kf3]; · iexact Kf3
    isplitl [Of]; · iexact Of
    iexact HS
  iintro ⟨Kt3, Ot, G3, G4, Kf2, Kf3, Of, HS⟩
  iapply (run_bind c)
  iapply (part19 m K c _ _ _) $$ [FLt4 FLf4 Kt2 St3 Kf2 Sf3 HS]
  · isplitr; · iexact HE
    isplitl [FLt4]; · iexact FLt4
    isplitl [FLf4]; · iexact FLf4
    isplitl [Kt2]; · iexact Kt2
    isplitl [St3]; · iexact St3
    isplitl [Kf2]; · iexact Kf2
    isplitl [Sf3]; · iexact Sf3
    iexact HS
  iintro ⟨St4, RSt6, Sf4, RSf6, HS⟩
  iapply (run_bind c)
  iapply (part20 m K c _ _ _) $$ [RSt5 HS]
  · isplitr; · iexact HE
    isplitl [RSt5]; · iexact RSt5
    iexact HS
  iintro %u1_20
  iintro ⟨Kt4, RDf5, Kf4, Sf5, Df1, FLt5, HS⟩
  iapply (run_bind c)
  iapply (part21 m K c _ _ _ _) $$ [Sf5 Df1 RSf5 RDf5 FLt5 HS]
  · isplitr; · iexact HE
    isplitl [Sf5]; · iexact Sf5
    isplitl [Df1]; · iexact Df1
    isplitl [RSf5]; · iexact RSf5
    isplitl [RDf5]; · iexact RDf5
    isplitl [FLt5]; · iexact FLt5
    iexact HS
  iintro ⟨St5, Sf5, HS⟩
  iapply (run_bind c)
  iapply (part22 m K c _ _ _) $$ [RSt6 HS]
  · isplitr; · iexact HE
    isplitl [RSt6]; · iexact RSt6
    iexact HS
  iintro ⟨Kt5, RDf6, Kf5, Sf6, Df2, FLt6, HS⟩
  iapply (run_bind c)
  iapply (part23 m K c _ _ _) $$ [Sf6 Df2 RSf6 RDf6 G3 G2 Kt4 HS]
  · isplitr; · iexact HE
    isplitl [Sf6]; · iexact Sf6
    isplitl [Df2]; · iexact Df2
    isplitl [RSf6]; · iexact RSf6
    isplitl [RDf6]; · iexact RDf6
    isplitl [G3]; · iexact G3
    isplitl [G2]; · iexact G2
    isplitl [Kt4]; · iexact Kt4
    iexact HS
  iintro %u1_23 %u2_23
  iintro ⟨FLf6, G3, G2, Kt4, HS⟩
  iapply (run_bind c)
  iapply (part24 m K c _ _ _ _ _ _ _) $$ [Kt5 Ot G5 G6 Kf4 Kf5 Of HS]
  · isplitr; · iexact HE
    isplitl [Kt5]; · iexact Kt5
    isplitl [Ot]; · iexact Ot
    isplitl [G5]; · iexact G5
    isplitl [G6]; · iexact G6
    isplitl [Kf4]; · iexact Kf4
    isplitl [Kf5]; · iexact Kf5
    isplitl [Of]; · iexact Of
    iexact HS
  iintro ⟨Kt5, Ot, G5, G6, Kf4, Kf5, Of, HS⟩
  iapply (run_bind c)
  iapply (part25 m K c _ _ _) $$ [FLt6 FLf6 HS]
  · isplitr; · iexact HE
    isplitl [FLt6]; · iexact FLt6
    isplitl [FLf6]; · iexact FLf6
    iexact HS
  iintro ⟨St6, Sf6, Kt6, St7, HS⟩
  iapply (run_bind c)
  iapply (part26 m K c _ _ _ _ _ _) $$ [AA BB Ot G1 Kt6 Of G7 HS]
  · isplitr; · iexact HE
    isplitl [AA]; · iexact AA
    isplitl [BB]; · iexact BB
    isplitl [Ot]; · iexact Ot
    isplitl [G1]; · iexact G1
    isplitl [Kt6]; · iexact Kt6
    isplitl [Of]; · iexact Of
    isplitl [G7]; · iexact G7
    iexact HS
  iintro ⟨Sf7, AA, BB, G1, Kt6, Ot, Of, G7, Kf6, HS⟩
  iapply (run_bind c)
  iapply (part27 m K c _ _ _ _ _ _) $$ [Of CX1 CX2 CX3 CX4 CX5 HS]
  · isplitr; · iexact HE
    isplitl [Of]; · iexact Of
    isplitl [CX1]; · iexact CX1
    isplitl [CX2]; · iexact CX2
    isplitl [CX3]; · iexact CX3
    isplitl [CX4]; · iexact CX4
    isplitl [CX5]; · iexact CX5
    iexact HS
  iintro ⟨Of, X1, X2, X3, X4, X5, HS⟩
  iapply (run_bind c)
  iapply (st_xsent m K c (sh 6 c) (ne_6 c) (loc_xs (hb := k0_off1_inb c 5) (sh 6 c) (o1_6 c)) (xblk_of (hb := k0_off4_inb c 5) (sh 6 c) (o4_6 c)) (kk := .ret) (i := 34) (j := 21) (v := 28) (n := 47) (by revert c; decide +kernel)) $$ [CX6 HS]
  · isplitr; · iexact HE
    isplitl [CX6]; · iexact CX6
    iexact HS
  iintro ⟨X6, HS⟩
  iapply (run_ret c _ _)
  iapply (run_bind c)
  iapply (st_xsent m K c (sh 7 c) (ne_7 c) (loc_xs (hb := k0_off1_inb c 6) (sh 7 c) (o1_7 c)) (xblk_of (hb := k0_off4_inb c 6) (sh 7 c) (o4_7 c)) (kk := .ret) (i := 34) (j := 21) (v := 28) (n := 48) (by revert c; decide +kernel)) $$ [CX7 HS]
  · isplitr; · iexact HE
    isplitl [CX7]; · iexact CX7
    iexact HS
  iintro ⟨X7, HS⟩
  iapply (run_ret c _ _)
  iapply (run_ret c _ Kt)
  iapply Hk
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [XX]; · iexact XX
  isplitl [WL]; · iexact WL
  isplitl [St0]; · iexact St0
  isplitl [Sf0]; · iexact Sf0
  isplitl [Kt3]; · iexact Kt3
  isplitl [Kt4]; · iexact Kt4
  isplitl [Kt5]; · iexact Kt5
  isplitl [Kt6]; · iexact Kt6
  isplitl [St4]; · iexact St4
  isplitl [St5]; · iexact St5
  isplitl [St6]; · iexact St6
  isplitl [St7]; · iexact St7
  isplitl [Kf3]; · iexact Kf3
  isplitl [Kf4]; · iexact Kf4
  isplitl [Kf5]; · iexact Kf5
  isplitl [Kf6]; · iexact Kf6
  isplitl [Sf4]; · iexact Sf4
  isplitl [Sf5]; · iexact Sf5
  isplitl [Sf6]; · iexact Sf6
  isplitl [Sf7]; · iexact Sf7
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [Ot]; · iexact Ot
  isplitl [Of]; · iexact Of
  isplitl [AA]; · iexact AA
  isplitl [BB]; · iexact BB
  iexact HS

end Cert.RingProof
-- ==== Proof.Ghost.lean ====
/-
# What the launch deals out

The tokens of all payments, each to the device that pays; the credits of all waits, each to the device that waits; and
the semaphores of a device, as its cells.
-/
module

public import proofs.«01_k».proof.Proof.Body

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

variable (m : (ℓ : Loc nD τ sig) → Buf (Elt F) ℓ)
variable (K : Dev nD × CK → ℕ)

/-! ## Lists of resources -/

theorem listed_congr {ι : Type} {l : List ι} {Φ Ψ : ι → sProp 𝕄} (h : ∀ x ∈ l, Φ x = Ψ x) : (bigSepL l Φ : sProp 𝕄) = bigSepL l Ψ := by
  induction l with
  | nil => rfl
  | cons a l ih =>
    rw [bigSepL_cons', bigSepL_cons', h a (List.mem_cons_self ..), ih fun x hx => h x (List.mem_cons_of_mem _ hx)]

/-- Two lists with the same entries list the same resources. -/
theorem listed_perm {ι : Type} {l l' : List ι} (h : l.Perm l') (Φ : ι → sProp 𝕄) : (bigSepL l Φ : sProp 𝕄) = bigSepL l' Φ := by
  induction h with
  | nil => rfl
  | cons a _ ih => rw [bigSepL_cons', bigSepL_cons', ih]
  | swap a b l =>
    rw [bigSepL_cons', bigSepL_cons', bigSepL_cons', bigSepL_cons']
    have e (P Q R : sProp 𝕄) : iprop(P ∗ Q ∗ R) = iprop((P ∗ Q) ∗ R) := BI.Entails.antisymm BI.sep_assoc' BI.sep_assoc
    rw [e, e, show iprop(Φ b ∗ Φ a) = (iprop(Φ a ∗ Φ b) : sProp 𝕄) from BI.Entails.antisymm BI.sep_comm BI.sep_comm]
  | trans _ _ h1 h2 => exact h1.trans h2

theorem listed_flatMap {ι κ : Type} (l : List ι) (f : ι → List κ) (Φ : κ → sProp 𝕄) :
    (bigSepL (l.flatMap f) Φ : sProp 𝕄) = bigSepL l fun a => bigSepL (f a) Φ := by
  induction l with
  | nil => rfl
  | cons a l ih => rw [List.flatMap_cons, bigSepL_append, ih, bigSepL_cons']

/-! ## Tokens -/

/-- A token for every payment and for every transfer's own send cell, as the device, cell, round and duty it is for. -/
def mint : List PE := (List.finRange nD).flatMap fun c => pays c ++ (sends c).map fun x => (c, x.1, x.2, 0)

/-- A number for each cell of a device. -/
def codeK : CK → ℕ
  | .bar => 0
  | .xs t => 1 + t.val
  | .xr t => 9 + t.val
  | .hs d p => 17 + 2 * d.toNat + p.val
  | .hr d p => 21 + 2 * d.toNat + p.val
  | .cr d s => 25 + 4 * d.toNat + s.val

/-- A number for each token. -/
def codeP (e : PE) : ℕ := ((e.1.val * 64 + codeK e.2.1) * 8 + e.2.2.1) * 8 + e.2.2.2.val

theorem mint_nodup : mint.Nodup := List.Nodup.of_map codeP (by decide +kernel)

def tokOf (e : PE) : GSem nD τ sig × ℕ × Dev nD := (cell e.1 e.2.1, e.2.2.1, e.2.2.2)
theorem tokOf_inj : Function.Injective tokOf := by
  rintro ⟨a, k, r, p⟩ ⟨a', k', r', p'⟩ h
  obtain ⟨h1, h2⟩ := cell_inj (congrArg Prod.fst h)
  obtain ⟨h3, h4⟩ := Prod.mk.inj (congrArg Prod.snd h)
  simp only at h1 h2 h3 h4
  subst h1 h2 h3 h4
  rfl

def ringToks : Finset (GSem nD τ sig × ℕ × Dev nD) := mint.toFinset.map ⟨tokOf, tokOf_inj⟩

/-- All tokens, dealt to the devices that pay with them. -/
theorem toks_dealt : bigSep ringToks (fun x => (dutyTok ER x.1 x.2.1 x.2.2 : sProp 𝕄))
    = bigSep Finset.univ fun c : Dev nD => iprop(bigSepL (pays c) tokP ∗ bigSepL (sends c) (tokS c)) := by
  unfold ringToks
  rw [bigSep_map, show (bigSep mint.toFinset fun i => (dutyTok ER ((⟨tokOf, tokOf_inj⟩ : PE ↪ _) i).1 ((⟨tokOf, tokOf_inj⟩ : PE ↪ _) i).2.1 ((⟨tokOf, tokOf_inj⟩ : PE ↪ _) i).2.2 : sProp 𝕄))
      = bigSep mint.toFinset tokP from rfl, bigSep_eq_bigSepL mint mint_nodup, bigSep_univ_eq_bigSepL (List.finRange nD) (by decide) (by decide)]
  unfold mint
  rw [listed_flatMap]
  refine listed_congr fun c _ => ?_
  rw [bigSepL_append, bigSepL_map]
  rfl

/-! ## Credits -/

/-- The payments addressed to device c. -/
def inc (c : Dev nD) : List PE := ((List.finRange nD).flatMap pays).filter fun e => e.1 = c

/-- What device c owes at launch. -/
def O₀ (c : Dev nD) : CellTallies nD τ sig ℕ := tallyL ((pays c).map toPay)

theorem credOf_inc (c : Dev nD) : TalkSites.credOf (fun d => (pays d).map toPay) c = (inc c).map toPay := by
  unfold TalkSites.credOf TalkSites.allPays inc
  rw [← List.map_flatMap, List.filter_map]
  refine congrArg (List.map toPay) (List.filter_congr fun e _ => ?_)
  refine decide_eq_decide.mpr ⟨fun h => congrArg (fun t : Thread nD τ => t.1) h, fun h => ?_⟩
  exact congrArg (fun d : Dev nD => (d : Thread nD τ)) h

/-- A unit of credit as the payer counts it. -/
def crdU (c : Dev nD) (x : CK × ℕ) : sProp 𝕄 := cred (tallyAt (cell c x.1) x.2 (amtK x.1))

theorem inc_perm (c : Dev nD) : ((inc c).map fun e => (e.2.1, e.2.2.1)).Perm (List.replicate 7 (.bar, 0) ++ (waitsFor c).tail) := by
  revert c; decide +kernel

theorem bar_credit (c : Dev nD) (n : ℕ) : (bigSepL (List.replicate (n + 1) (CK.bar, 0)) (crdU c) : sProp 𝕄) = cred (tallyAt (cell c .bar) 0 (n + 1)) := by
  induction n with
  | zero => rfl
  | succ n ih =>
    rw [List.replicate_succ, bigSepL_cons', ih]
    refine (BI.Entails.antisymm (cred_add _ _).2 (cred_add _ _).1).trans ?_
    refine congrArg cred ((tallyAt_add _ _ _ _).trans ?_)
    rw [show amtK (CK.bar, 0).1 = 1 from rfl, Nat.add_comm]

theorem waits_tail (c : Dev nD) : ∀ x ∈ (waitsFor c).tail, x.1 ≠ .bar := by revert c; decide +kernel
theorem units_amt {k : CK} (h : k ≠ .bar) : amtK k = unitsK k := by
  cases k <;> first | exact absurd rfl h | rfl

/-- What a device is credited at launch: the units of all its waits. -/
theorem creds (c : Dev nD) : (Pipeline.launchCred O₀ c : sProp 𝕄) = bigSepL (waitsFor c) (crd c) := by
  unfold O₀
  rw [TalkSites.launchCred_tallyL (fun d => (pays d).map toPay) (fun d x hx => by
      obtain ⟨e, _, rfl⟩ := List.mem_map.mp hx; rfl) c, credOf_inc, TalkSites.cred_tallyL, bigSepL_map]
  rw [listed_congr (l := inc c) (Ψ := fun e : PE => crdU c (e.2.1, e.2.2.1)) (fun e he => by
      have h : e.1 = c := of_decide_eq_true (List.mem_filter.mp he).2
      subst h; rfl), ← bigSepL_map (fun e : PE => (e.2.1, e.2.2.1)) (inc c) (crdU c), listed_perm (inc_perm c), bigSepL_append, bar_credit,
    show (bigSepL (waitsFor c) (crd c) : sProp 𝕄) = bigSepL ((.bar, 0) :: (waitsFor c).tail) (crd c) from rfl, bigSepL_cons']
  rw [listed_congr (l := (waitsFor c).tail) (Φ := crdU c) (Ψ := crd c) (fun x hx => by
      unfold crdU crd; rw [units_amt (waits_tail c x hx)])]
  rfl

/-! ## Semaphores -/

set_option backward.proofsInPublic true in
/-- The cells of the kernel's own semaphores: all but the barrier. -/
def ownK (i : Fin 32) : CK := allK.getD (i.val + 1) .bar
/-- The kernel's own semaphores. -/
def osem (i : Fin 32) : SemLoc sig := loc (ownK i)

theorem ownSemFacts : Pipeline.OwnSemFacts cfg0.spec osem := by decide +kernel

theorem all_own : (Finset.univ : Finset CK) = (.bar :: (List.finRange 32).map ownK : List CK).toFinset := by decide +kernel
theorem all_own_nodup : (.bar :: (List.finRange 32).map ownK : List CK).Nodup := by decide +kernel

/-- A device's semaphores at zero are its cells at zero. -/
theorem sems_eq (c : Dev nD) : iprop(Pipeline.ownSems0 (Ix := ℕ) (Name := ℕ) (U := UU) (Lvl := ℕ) (Val := Elt F) (τ := τ) osem c ∗ unscopedSems0 c)
    = (bigSep Finset.univ fun k : CK => semVal (cell c k) 0 : sProp 𝕄) := by
  rw [Pipeline.ownSems0_eq_of_list c osem (List.finRange 32) (by decide) (by decide), bigSep_univ_eq_bigSepL _ all_own all_own_nodup, bigSepL_cons', bigSepL_map]
  unfold unscopedSems0
  rw [bigSep_eq_bigSepL_of_eq [SemLoc.reg barrier0] (by decide) (by decide)]
  exact BI.Entails.antisymm BI.sep_comm BI.sep_comm

/-! ## The end of the protocol -/

theorem with_known {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- After its 49 waits a device is past the last round of every cell. -/
theorem past_end (c : Dev nD) (k : CK) (r : ℕ) (h : cnt c 49 k ≤ r) : dutK c k r = ∅ := by
  cases k with
  | bar =>
    have e : ∀ c : Dev nD, cnt c 49 .bar = 1 := by decide +kernel
    rw [e] at h
    exact if_neg (by omega)
  | xs t =>
    have e : ∀ c t : Dev nD, t ≠ c → cnt c 49 (.xs t) = 1 := by decide +kernel
    refine if_neg fun ⟨h0, h1⟩ => ?_
    rw [e c t h1] at h; omega
  | xr t =>
    have e : ∀ c t : Dev nD, t ≠ c → cnt c 49 (.xr t) = 1 := by decide +kernel
    refine if_neg fun ⟨h0, h1⟩ => ?_
    rw [e c t h1] at h; omega
  | hs d p =>
    have e : ∀ (c : Dev nD) (d : Bool) (p : Fin 2), cnt c 49 (.hs d p) + p.val = 4 := by decide +kernel
    have := e c d p
    exact if_neg (by omega)
  | hr d p =>
    have e : ∀ (c : Dev nD) (d : Bool) (p : Fin 2), cnt c 49 (.hr d p) + p.val = 4 := by decide +kernel
    have := e c d p
    exact if_neg (by omega)
  | cr d s =>
    have e : ∀ (c : Dev nD) (d : Bool) (s : Fin 4), s.val < 3 → cnt c 49 (.cr d s) = 1 := by decide +kernel
    refine if_neg fun ⟨h0, h1⟩ => ?_
    rw [e c d s h1] at h; omega

theorem close_cell (c : Dev nD) (k : CK) : iprop(Env m K ∗ atPos ER (cell c k) (cnt c 49 k) ∅ 0) ⊢ (|={Set.univ}=> semVal (cell c k) 0 : sProp 𝕄) := by
  iintro ⟨#HE, Hp⟩
  iapply (Rounds.cell_close ER (Rd m) (κ := K (c, k)) (g := cell c k) (Set.mem_univ _) (fun h => h) (R := cnt c 49 k)
    (fun r hr => (Rd_duties m c k r).trans (past_end c k r hr)))
  isplitr
  · iapply (Env_inv m K c k); iexact HE
  iexact Hp

/-- At the end a device's semaphores are its own again, at zero. -/
theorem close_all (c : Dev nD) : iprop(Env m K ∗ posAll c (cnt c 49)) ⊢ (|={Set.univ}=> bigSep Finset.univ fun k : CK => semVal (cell c k) 0 : sProp 𝕄) := by
  unfold posAll
  exact (with_known fun k => close_cell m K c k).trans (bigSep_fupd _ _)

end Cert.RingProof
-- ==== Proof.Launch.lean ====
/-
# The launch

The whole run of the kernel on eight devices: what each device's body starts from and ends with, the allocation of the
cells' invariants for all devices at once, and the contents of the arrays at the end.
-/
module

public import proofs.«01_k».proof.Proof.Ghost

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)
variable (ρ : Dev nD → PrngReg)

/-! ## The data of the pipeline's one point -/

theorem cfg0_N : cfg0.N = 1 := by decide
set_option backward.proofsInPublic true in
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two scales as device c stages them. -/
def astg (c : Dev nD) : S1.Idx → Elt F .f32 := (win0_2.blk (0 : Fin 1)).view.read (Elt F) (m ((c : Thread nD τ).loc main_arg2))
def bstg (c : Dev nD) : S1.Idx → Elt F .f32 := (win0_3.blk (0 : Fin 1)).view.read (Elt F) (m ((c : Thread nD τ).loc main_arg3))
set_option backward.proofsInPublic true in
/-- The one index of a block of one element. -/
def e0 : S1.Idx := fun a => ⟨0, by revert a; decide⟩
/-- The scales. -/
def sca (c : Dev nD) : Elt F .f32 := astg m c e0
def scb (c : Dev nD) : Elt F .f32 := bstg m c e0

theorem one_elt (i : S1.Idx) : i = e0 := by
  funext a
  have h1 : ∀ a, S1.size a = 1 := by decide
  have h : (i a).val < 1 := h1 a ▸ (i a).isLt
  exact Fin.ext (Nat.lt_one_iff.mp h)
theorem astg_eq (c : Dev nD) : astg m c = fun _ => sca m c := funext fun i => congrArg (astg m c) (one_elt i)
theorem bstg_eq (c : Dev nD) : bstg m c = fun _ => scb m c := funext fun i => congrArg (bstg m c) (one_elt i)

/-- What device c's result block holds at the end. -/
def outAt (c : Dev nD) : S512x8192.Idx → Elt F .f32 := glue (acc0 m c) (acc4 m (sca m c) (scb m c) c)

/-- A staging buffer with a block in it. -/
def stg (c : Dev nD) (b : Ref sig .tc) (X : Buf (Elt F) ((c : Thread nD τ).loc b)) : sProp 𝕄 :=
  iprop(∃ f : Buf (Elt F) ((c : Thread nD τ).loc b), ⌜f = X⌝ ∗ ((c : Thread nD τ).loc b ↦{fullShare} f))

/-- What device c starts from: at some names, what every device knows; its tokens, credits and places. -/
def start (c : Dev nD) : sProp 𝕄 :=
  iprop(∃ K, Env m K ∗ bigSepL (pays c) tokP ∗ bigSepL (sends c) (tokS c) ∗ bigSepL (waitsFor c) (crd c) ∗ posAll c (cnt c 0))

/-- The three buffers of the ring, whatever is in them. -/
def bufs (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f))

def Φ₀ (c : Dev nD) : sProp 𝕄 := iprop(start m c ∗ bufs c)
def Φ₁ (c : Dev nD) : sProp 𝕄 := iprop(bufs c ∗ bigSep Finset.univ fun k : CK => semVal (cell c k) 0)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => astg m c
    | ⟨3, _⟩ => bstg m c
    | ⟨4, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄) = stg c b X := by
  unfold stg owns; simp only [Memref.view_whole, View.read_whole, View.set_whole]

theorem before_0 (c : Dev nD) (d) : (dats m ρ 0 c).before 0 t₀ d = xstg m c := by unfold Dat.before; rw [if_pos (fetch0_0 t₀)]; rfl
theorem before_1 (c : Dev nD) (d) : (dats m ρ 0 c).before 1 t₀ d = wstg m c := by unfold Dat.before; rw [if_pos (fetch0_1 t₀)]; rfl
theorem before_2 (c : Dev nD) (d) : (dats m ρ 0 c).before 2 t₀ d = astg m c := by unfold Dat.before; rw [if_pos (fetch0_2 t₀)]; rfl
theorem before_3 (c : Dev nD) (d) : (dats m ρ 0 c).before 3 t₀ d = bstg m c := by unfold Dat.before; rw [if_pos (fetch0_3 t₀)]; rfl

theorem stg_intro (c : Dev nD) (b : Ref sig .tc) (X : Buf (Elt F) ((c : Thread nD τ).loc b)) : ((c : Thread nD τ).loc b ↦{fullShare} X : sProp 𝕄) ⊢ stg c b X := by
  unfold stg; iintro H; iexists X; isplitr; · ipureintro; rfl
  iexact H
theorem stg_elim (c : Dev nD) (b : Ref sig .tc) (X : Buf (Elt F) ((c : Thread nD τ).loc b)) : stg c b X ⊢ ((c : Thread nD τ).loc b ↦{fullShare} X : sProp 𝕄) := by
  unfold stg; iintro ⟨%f, %h, H⟩; subst h; iexact H

def bodyPre (c : Dev nD) : sProp 𝕄 :=
  iprop(Φ₀ m c ∗ (dats m ρ 0 c).owesAt 0 t₀.castSucc
    ∗ (∃ d, stg c cc0_stg0_0 ((dats m ρ 0 c).before 0 t₀ d)) ∗ (∃ d, stg c cc0_stg1_0 ((dats m ρ 0 c).before 1 t₀ d))
    ∗ (∃ d, stg c cc0_stg2_0 ((dats m ρ 0 c).before 2 t₀ d)) ∗ (∃ d, stg c cc0_stg3_0 ((dats m ρ 0 c).before 3 t₀ d))
    ∗ (∃ d, stg c cc0_stg4_0 ((dats m ρ 0 c).before 4 t₀ d)))
def bodyPost (c : Dev nD) : sProp 𝕄 :=
  iprop(Φ₁ c ∗ (dats m ρ 0 c).owesAt 0 t₀.succ ∗ stg c cc0_stg0_0 (xstg m c) ∗ stg c cc0_stg1_0 (wstg m c)
    ∗ stg c cc0_stg2_0 (astg m c) ∗ stg c cc0_stg3_0 (bstg m c) ∗ stg c cc0_stg4_0 (outAt m c))

/-! ## The body -/

section Body

variable (K : Dev nD × CK → ℕ)

/-- A ring buffer is whole again from its four slots after the last hop. -/
theorem ring_end (d : Bool) (c : Dev nD) :
    iprop(keepAt m d c 3 ∗ keepAt m d c 4 ∗ keepAt m d c 5 ∗ keepAt m d c 6 ∗ srcAt m d c 4 ∗ srcAt m d c 5 ∗ srcAt m d c 6 ∗ srcAt m d c 7)
      ⊢ (slots d c : sProp 𝕄) := by
  iintro ⟨K3, K4, K5, K6, S4, S5, S6, S7⟩
  iapply (slots_end m d c)
  isplitl [K3 S4]; · isplitl [K3] <;> iassumption
  isplitl [K4 S5]; · isplitl [K4] <;> iassumption
  isplitl [K5 S6]; · isplitl [K5] <;> iassumption
  isplitl [K6] <;> iassumption

/-- The gathered blocks' buffer is whole again from its eight slots. -/
theorem gather_end (c : Dev nD) :
    iprop(anyOf c (gslot c) ∗ own c (gslot (sh 1 c)) fullShare (xpart m (sh 1 c) c) ∗ own c (gslot (sh 2 c)) fullShare (xpart m (sh 2 c) c) ∗ own c (gslot (sh 3 c)) fullShare (xpart m (sh 3 c) c) ∗ own c (gslot (sh 4 c)) fullShare (xpart m (sh 4 c) c) ∗ own c (gslot (sh 5 c)) fullShare (xpart m (sh 5 c) c) ∗ own c (gslot (sh 6 c)) fullShare (xpart m (sh 6 c) c) ∗ own c (gslot (sh 7 c)) fullShare (xpart m (sh 7 c) c))
      ⊢ (iprop(∃ f, (c : Thread nD τ).loc cc0_scratch0 ↦{fullShare} f) : sProp 𝕄) := by
  refine BIBase.Entails.trans ?_ (g_whole c)
  rw [over_devs c]
  iintro ⟨H0, G1, G2, G3, G4, G5, G6, G7⟩
  isplitl [H0]; · iexact H0
  isplitl [G1]; · iapply (own_any (F := F)); iexact G1
  isplitl [G2]; · iapply (own_any (F := F)); iexact G2
  isplitl [G3]; · iapply (own_any (F := F)); iexact G3
  isplitl [G4]; · iapply (own_any (F := F)); iexact G4
  isplitl [G5]; · iapply (own_any (F := F)); iexact G5
  isplitl [G6]; · iapply (own_any (F := F)); iexact G6
  iapply (own_any (F := F)); iexact G7

/-- What the body leaves, gathered into the buffers it was given. -/
theorem body_end (c : Dev nD) :
    iprop(Env m K ∗ anyOf c (gslot c) ∗ own c (xblk (sh 1 c)) fullShare (xpart m c (sh 1 c)) ∗ own c (xblk (sh 2 c)) fullShare (xpart m c (sh 2 c)) ∗ own c (xblk (sh 3 c)) fullShare (xpart m c (sh 3 c)) ∗ own c (xblk (sh 4 c)) fullShare (xpart m c (sh 4 c)) ∗ own c (xblk (sh 5 c)) fullShare (xpart m c (sh 5 c)) ∗ own c (xblk (sh 6 c)) fullShare (xpart m c (sh 6 c)) ∗ own c (xblk (sh 7 c)) fullShare (xpart m c (sh 7 c)) ∗ own c (xblk c) fullShare (xpart m c c) ∗ own c wW fullShare.left (wstg m c) ∗ srcAt m true c 0 ∗ srcAt m false c 0 ∗ keepAt m true c 3 ∗ keepAt m true c 4 ∗ keepAt m true c 5 ∗ keepAt m true c 6 ∗ srcAt m true c 4 ∗ srcAt m true c 5 ∗ srcAt m true c 6 ∗ srcAt m true c 7 ∗ keepAt m false c 3 ∗ keepAt m false c 4 ∗ keepAt m false c 5 ∗ keepAt m false c 6 ∗ srcAt m false c 4 ∗ srcAt m false c 5 ∗ srcAt m false c 6 ∗ srcAt m false c 7 ∗ own c (gslot (sh 1 c)) fullShare (xpart m (sh 1 c) c) ∗ own c (gslot (sh 2 c)) fullShare (xpart m (sh 2 c) c) ∗ own c (gslot (sh 3 c)) fullShare (xpart m (sh 3 c) c) ∗ own c (gslot (sh 4 c)) fullShare (xpart m (sh 4 c) c) ∗ own c (gslot (sh 5 c)) fullShare (xpart m (sh 5 c) c) ∗ own c (gslot (sh 6 c)) fullShare (xpart m (sh 6 c) c) ∗ own c (gslot (sh 7 c)) fullShare (xpart m (sh 7 c) c) ∗ own c (ohalf true) fullShare (acc4 m (sca m c) (scb m c) c true) ∗ own c (ohalf false) fullShare (acc4 m (sca m c) (scb m c) c false) ∗ own c aW fullShare (fun _ => sca m c) ∗ own c bW fullShare (fun _ => scb m c) ∗ St c 34 21 28 49)
      ⊢ (|={Set.univ}=> bodyPost m ρ c : sProp 𝕄) := by
  iintro ⟨#HE, H0, X1, X2, X3, X4, X5, X6, X7, X0, WL, ST0, SF0, KT3, KT4, KT5, KT6, ST4, ST5, ST6, ST7, KF3, KF4, KF5, KF6, SF4, SF5, SF6, SF7, G1, G2, G3, G4, G5, G6, G7, OT, OF, AA, BB, HS⟩
  ihave Hg := (gather_end m c) $$ [H0 G1 G2 G3 G4 G5 G6 G7]
  · isplitl [H0]; · iexact H0
    isplitl [G1]; · iexact G1
    isplitl [G2]; · iexact G2
    isplitl [G3]; · iexact G3
    isplitl [G4]; · iexact G4
    isplitl [G5]; · iexact G5
    isplitl [G6]; · iexact G6
    iexact G7

  ihave HRT := ((ring_end m true c).trans (f_whole c)) $$ [KT3 KT4 KT5 KT6 ST4 ST5 ST6 ST7]
  · isplitl [KT3]; · iexact KT3
    isplitl [KT4]; · iexact KT4
    isplitl [KT5]; · iexact KT5
    isplitl [KT6]; · iexact KT6
    isplitl [ST4]; · iexact ST4
    isplitl [ST5]; · iexact ST5
    isplitl [ST6]; · iexact ST6
    iexact ST7
  ihave HRF := ((ring_end m false c).trans (h_whole c)) $$ [KF3 KF4 KF5 KF6 SF4 SF5 SF6 SF7]
  · isplitl [KF3]; · iexact KF3
    isplitl [KF4]; · iexact KF4
    isplitl [KF5]; · iexact KF5
    isplitl [KF6]; · iexact KF6
    isplitl [SF4]; · iexact SF4
    isplitl [SF5]; · iexact SF5
    isplitl [SF6]; · iexact SF6
    iexact SF7
  ihave Hw := (w_back m c) $$ [WL ST0 SF0]
  · isplitl [WL]; · iexact WL
    isplitl [ST0] <;> iassumption
  ihave Ho := (o_join c (acc0 m c) (acc4 m (sca m c) (scb m c) c)) $$ [OT OF]
  · isplitl [OT] <;> iassumption
  ihave Hx := (BIBase.Entails.of_eq (x_parts m c).symm) $$ [X0 X1 X2 X3 X4 X5 X6 X7]
  · rw [over_devs c]
    isplitl [X0]; · iexact X0
    isplitl [X1]; · iexact X1
    isplitl [X2]; · iexact X2
    isplitl [X3]; · iexact X3
    isplitl [X4]; · iexact X4
    isplitl [X5]; · iexact X5
    isplitl [X6]; · iexact X6
    iexact X7
  unfold St Led
  icases HS with ⟨⟨%W, HO⟩, -, -, -, Hp⟩
  imod (close_all m K c) $$ [Hp] with Hs
  · isplitr; · iexact HE
    iexact Hp
  imodintro
  unfold bodyPost Φ₁ bufs
  isplitl [Hs Hg HRT HRF]
  · isplitl [Hg HRT HRF]
    · isplitl [Hg]; · iexact Hg
      isplitl [HRT] <;> iassumption
    iexact Hs
  isplitl [HO]
  · unfold Dat.owesAt Pipeline.owesWithin
    iexists W
    isplitr; · ipureintro; exact fun _ _ => Or.inl trivial
    iexact HO
  isplitl [Hx]; · iapply (stg_intro c cc0_stg0_0 (xstg m c)); iexact Hx
  isplitl [Hw]; · iapply (stg_intro c cc0_stg1_0 (wstg m c)); iexact Hw
  isplitl [AA]
  · iapply (stg_intro c cc0_stg2_0 (astg m c)); rw [astg_eq m c, ← aW_eq]; iexact AA
  isplitl [BB]
  · iapply (stg_intro c cc0_stg3_0 (bstg m c)); rw [bstg_eq m c, ← bW_eq]; iexact BB
  iapply (stg_intro c cc0_stg4_0 (outAt m c)); iexact Ho

/-- The body from what the launch hands it, split into what it uses. -/
theorem body_begin (c : Dev nD) :
    bodyPre m ρ c ⊢ (iprop(∃ K Ov, Env m K ∗ anyOf c (gslot c) ∗ anyOf c (gslot (sh 1 c)) ∗ anyOf c (gslot (sh 2 c)) ∗ anyOf c (gslot (sh 3 c)) ∗ anyOf c (gslot (sh 4 c)) ∗ anyOf c (gslot (sh 5 c)) ∗ anyOf c (gslot (sh 6 c)) ∗ anyOf c (gslot (sh 7 c)) ∗ slots true c ∗ slots false c ∗ srcAt m true c 0 ∗ srcAt m false c 0 ∗ own c (xblk (sh 1 c)) fullShare (xpart m c (sh 1 c)) ∗ own c (xblk (sh 2 c)) fullShare (xpart m c (sh 2 c)) ∗ own c (xblk (sh 3 c)) fullShare (xpart m c (sh 3 c)) ∗ own c (xblk (sh 4 c)) fullShare (xpart m c (sh 4 c)) ∗ own c (xblk (sh 5 c)) fullShare (xpart m c (sh 5 c)) ∗ own c (xblk (sh 6 c)) fullShare (xpart m c (sh 6 c)) ∗ own c (xblk (sh 7 c)) fullShare (xpart m c (sh 7 c)) ∗ own c (xblk c) fullShare (xpart m c c) ∗ own c wW fullShare.left (wstg m c) ∗ own c oW fullShare Ov ∗ own c aW fullShare (fun _ => sca m c) ∗ own c bW fullShare (fun _ => scb m c) ∗ St c 0 0 0 0) : sProp 𝕄) := by
  unfold bodyPre Φ₀ start bufs
  iintro ⟨⟨⟨%K, #HE, Hp, Hs, Hw, Hat⟩, Hg, Hf, Hh⟩, Ho, ⟨%d0, H0⟩, ⟨%d1, H1⟩, ⟨%d2, H2⟩, ⟨%d3, H3⟩, ⟨%d4, H4⟩⟩
  unfold Dat.owesAt Pipeline.owesWithin
  icases Ho with ⟨%W, -, HO⟩
  iexists K; iexists ((dats m ρ 0 c).before 4 t₀ d4 : S512x8192.Idx → Elt F .f32)
  ihave H4 := (stg_elim c cc0_stg4_0 ((dats m ρ 0 c).before 4 t₀ d4)) $$ H4
  ihave Hg := ((g_apart c).trans (BIBase.Entails.of_eq (over_devs c _))) $$ Hg
  icases Hg with ⟨G0, G1, G2, G3, G4, G5, G6, G7⟩
  ihave Hx := ((BIBase.Entails.of_eq (congrArg (stg c cc0_stg0_0) (before_0 m ρ c d0))).trans (stg_elim c cc0_stg0_0 (xstg m c))) $$ H0
  ihave Hx := (BIBase.Entails.of_eq ((x_parts m c).trans (over_devs c _))) $$ Hx
  icases Hx with ⟨X0, X1, X2, X3, X4, X5, X6, X7⟩
  ihave Hwt := ((BIBase.Entails.of_eq (congrArg (stg c cc0_stg1_0) (before_1 m ρ c d1))).trans (stg_elim c cc0_stg1_0 (wstg m c))) $$ H1
  ihave Hwt := (w_lend m c) $$ Hwt
  icases Hwt with ⟨WL, WT, WF⟩
  ihave Ha := ((BIBase.Entails.of_eq (congrArg (stg c cc0_stg2_0) (before_2 m ρ c d2))).trans (stg_elim c cc0_stg2_0 (astg m c))) $$ H2
  ihave Hb := ((BIBase.Entails.of_eq (congrArg (stg c cc0_stg3_0) (before_3 m ρ c d3))).trans (stg_elim c cc0_stg3_0 (bstg m c))) $$ H3
  isplitr; · iexact HE
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [Hf]; · iapply (f_apart c); iexact Hf
  isplitl [Hh]; · iapply (h_apart c); iexact Hh
  isplitl [WT]; · iexact WT
  isplitl [WF]; · iexact WF
  isplitl [X1]; · iexact X1
  isplitl [X2]; · iexact X2
  isplitl [X3]; · iexact X3
  isplitl [X4]; · iexact X4
  isplitl [X5]; · iexact X5
  isplitl [X6]; · iexact X6
  isplitl [X7]; · iexact X7
  isplitl [X0]; · iexact X0
  isplitl [WL]; · iexact WL
  isplitl [H4]; · rw [oW_eq]; iexact H4
  isplitl [Ha]; · rw [aW_eq, ← astg_eq m c]; iexact Ha
  isplitl [Hb]; · rw [bW_eq, ← bstg_eq m c]; iexact Hb
  unfold St Led
  isplitl [HO]; · iexists W; iexact HO
  isplitl [Hp]; · iexact Hp
  isplitl [Hs]; · iexact Hs
  isplitl [Hw]; · iexact Hw
  iexact Hat

end Body

/-- The body does what the pipeline asks of it. -/
theorem body_obligation (c : Dev nD) : BodyObligation (dats m ρ 0 c) (defs₀ (F := F)) 𝒱₀ 0 Set.univ := fun t => by
  rw [fin_N t, bigSep_W0, bigSep_W0]
  simp only [owns_whole_eq]
  show bodyPre m ρ c ⊢ run c (cc0_body xM (Memref.isWhole_whole _) wM (Memref.isWhole_whole _) aM (Memref.isWhole_whole _) bM (Memref.isWhole_whole _) oM (Memref.isWhole_whole _)
    gM (Memref.isWhole_whole _) fM (Memref.isWhole_whole _) hM (Memref.isWhole_whole _) cc0_scratch3 cc0_scratch4 cc0_scratch5 cc0_scratch6 cc0_scratch7 cc0_scratch8 cc0_scratch9 cc0_scratch10) (fun _ => bodyPost m ρ c)
  refine (body_begin m ρ c).trans (BIBase.Entails.trans ?_ (wp_fupd _ _ _ _ _))
  iintro ⟨%K, %Ov, #HE, G0, G1, G2, G3, G4, G5, G6, G7, ST, SF, WT, WF, X1, X2, X3, X4, X5, X6, X7, X0, WL, OO, AA, BB, HS⟩
  iapply (body_run m K c (sca m c) (scb m c) Ov (fun _ => iprop(|={Set.univ}=> bodyPost m ρ c))) $$ [G1 G2 G3 G4 G5 G6 G7 ST SF WT WF X1 X2 X3 X4 X5 X6 X7 X0 WL OO AA BB HS]
  · isplitr; · iexact HE
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [ST]; · iexact ST
    isplitl [SF]; · iexact SF
    isplitl [WT]; · iexact WT
    isplitl [WF]; · iexact WF
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X0]; · iexact X0
    isplitl [WL]; · iexact WL
    isplitl [OO]; · iexact OO
    isplitl [AA]; · iexact AA
    isplitl [BB]; · iexact BB
    iexact HS
  iintro Hend
  iapply (body_end m ρ K c)
  isplitr; · iexact HE
  isplitl [G0]; · iexact G0
  iexact Hend

end Cert.RingProof
-- ==== Proof.Run.lean ====
/-
# The run

The launch of the kernel on the eight devices, for any float values: every fair execution ends, with the counters at
zero, the arguments as they were and each device's result array at the contents the body leaves.
-/
module

public import proofs.«01_k».proof.Proof.Launch
public import Idealize.ShloMosaic.Lib.Pipeline.Quiescent
public import Idealize.ShloMosaic.Lib.Pipeline.CollectiveSegs

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat)

variable {F : FTy → Type} [FloatOps F]

local notation "𝕄" => MT nD τ sig ℕ (Elt F) ℕ UU ℕ

variable (m : (ℓ : Loc nD τ sig) → Buf (Elt F) ℓ)
variable (ρ : Dev nD → PrngReg)

/-! ## What each device is dealt, and what the launch makes of it -/

theorem cellOn_inj : Function.Injective fun ck : Dev nD × CK => cell ck.1 ck.2 := fun a b h => Prod.ext (cell_inj h).1 (cell_inj h).2
def ringCells : Finset (GSem nD τ sig) := Finset.univ.map ⟨fun ck : Dev nD × CK => cell ck.1 ck.2, cellOn_inj⟩

def u₀ : UU :=
  (initOf (Pipeline.cells cfgs cellOf_inj) (Pipeline.launchToks cfgs cellOf_inj), initOf ringCells ringToks)

/-- The tokens device c pays with. -/
def toks (c : Dev nD) : sProp 𝕄 := iprop(bigSepL (pays c) tokP ∗ bigSepL (sends c) (tokS c))

/-- What device c is dealt: its cells' round states, its places, the marks of round 0, its tokens. -/
def G (c : Dev nD) : sProp 𝕄 :=
  iprop((bigSep Finset.univ fun k : CK => roundState ER (Rd m) (cell c k) 0) ∗ (bigSep Finset.univ fun k : CK => atPos ER (cell c k) 0 ∅ 0)
    ∗ (bigSep Finset.univ fun k : CK => reached ER (cell c k) 0) ∗ toks c)

/-- Every cell's invariant, with its round 0 begun. -/
def known (K : Dev nD × CK → ℕ) : sProp 𝕄 :=
  bigSep Finset.univ fun ck : Dev nD × CK => iprop(cellInv ER (Rd m) (K ck) (cell ck.1 ck.2) ∗ reached ER (cell ck.1 ck.2) 0)
instance known_persistent (K : Dev nD × CK → ℕ) : BI.Persistent (known m K) := by unfold known; infer_instance

/-- What the launch makes of it for device c. -/
def G' (c : Dev nD) : sProp 𝕄 := iprop(∃ K, known m K ∗ (bigSep Finset.univ fun k : CK => atPos ER (cell c k) 0 ∅ 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  iintro HX
  imod (Rounds.fund ER (Rd m) ringCells ringToks) $$ HX with ⟨Hst, Hr, Hat, Htok⟩
  imodintro
  ihave Hst := (BIBase.Entails.of_eq (hX fun g => roundState ER (Rd m) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq toks_dealt) $$ Htok
  unfold G toks; simp only [bigSep_sep']
  isplitl [Hst]; · iexact Hst
  isplitl [Hat]; · iexact Hat
  isplitl [Hr]; · iexact Hr
  iexact Htok

/-- A device's cells, each with an invariant. -/
theorem cells_alloc (c : Dev nD) :
    iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) := by
  rw [← bigSep_sep']
  exact (bigSep_mono fun k _ => (Rounds.body_intro ER (Rd m) (cell c k)).trans inv_alloc).trans (bigSep_fupd _ _)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k)))
          ∗ (bigSep Finset.univ fun k : CK => reached ER (cell c k) 0) ∗ (bigSep Finset.univ fun k : CK => atPos ER (cell c k) 0 ∅ 0) ∗ toks c) := by
  unfold G
  iintro ⟨Hos, Hus, Hst, Hat, Hr, Htok⟩
  ihave Hv := (BIBase.Entails.of_eq (sems_eq (F := F) c)) $$ [Hos Hus]
  · isplitl [Hos] <;> iassumption
  imod (cells_alloc m c) $$ [Hv Hst] with Hinv
  · isplitl [Hv] <;> iassumption
  imodintro
  isplitl [Hinv]; · iexact Hinv
  isplitl [Hr]; · iexact Hr
  isplitl [Hat]; · iexact Hat
  iexact Htok

theorem G'_intro (K : Dev nD × CK → ℕ) (c : Dev nD) :
    iprop(known m K ∗ (bigSep Finset.univ fun k : CK => atPos ER (cell c k) 0 ∅ 0) ∗ toks c) ⊢ G' m c := by
  unfold G'
  iintro H
  iexists K
  iexact H

/-- One choice of names for all cells of all devices. -/
theorem regroup :
    (bigSep Finset.univ fun c : Dev nD => iprop((bigSep Finset.univ fun k : CK => iprop(∃ κ : ℕ, cellInv ER (Rd m) κ (cell c k)))
          ∗ (bigSep Finset.univ fun k : CK => reached ER (cell c k) 0) ∗ (bigSep Finset.univ fun k : CK => atPos ER (cell c k) 0 ∅ 0) ∗ toks c) : sProp 𝕄)
      ⊢ bigSep Finset.univ (G' m) := by
  rw [bigSep_sep', bigSep_sep', ← bigSep_univ_prod (fun ck : Dev nD × CK => (iprop(∃ κ : ℕ, cellInv ER (Rd m) κ (cell ck.1 ck.2)) : sProp 𝕄)),
    ← bigSep_univ_prod (fun ck : Dev nD × CK => (reached ER (cell ck.1 ck.2) 0 : sProp 𝕄))]
  iintro ⟨HI, Hr, Hat⟩
  ihave HK := (BI.bigSep_exists_pi Finset.univ (fun (ck : Dev nD × CK) (κ : ℕ) => (cellInv ER (Rd m) κ (cell ck.1 ck.2) : sProp 𝕄))) $$ HI
  icases HK with ⟨%K, HI⟩
  iapply (with_known (R := known m K) fun c => G'_intro m K c)
  isplitl [HI Hr]
  · unfold known
    rw [bigSep_sep']
    isplitl [HI] <;> iassumption
  iexact Hat

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (BIBase.Entails.of_eq (creds (F := F) c)) $$ Hcr
  unfold G' toks
  icases HG with ⟨%K, HK, Hat, Hp, Hs⟩
  imodintro
  isplitl
  · unfold start
    iexists K
    isplitl [Hlev HK]
    · unfold Env known
      isplitl [Hlev] <;> iassumption
    isplitl [Hp]; · iexact Hp
    isplitl [Hs]; · iexact Hs
    isplitl [Hc]; · iexact Hc
    iapply (BIBase.Entails.of_eq (show (bigSep Finset.univ fun k : CK => atPos ER (cell c k) 0 ∅ 0) = (posAll c (cnt c 0) : sProp 𝕄) from rfl)); iexact Hat
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, H⟩
  isplitl [Hs]; · iexact Hs
  iexact H

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ bufs
  rw [← sems_eq]
  iintro ⟨Hb, Ho, Hu⟩
  isplitl [Hu]; · iexact Hu
  isplitl [Ho]; · iexact Ho
  iexact Hb

theorem lv_other (c : Dev nD) (sm : SemLoc sig) (h : ∀ k, loc k ≠ sm) (r : ℕ) : lv ((c : Thread nD τ), sm) r = 0 := by
  unfold lv kind
  rw [dif_neg fun ⟨k, hk⟩ => h k hk]

theorem pays_level (c : Dev nD) : ∀ e ∈ pays c, e.2.2.1 < 8 ∧ 0 < lvK e.2.1 e.2.2.1 := by revert c; decide +kernel

/-- A device may wait for its own staging transfers whatever it owes. -/
theorem mayWait_stage (c : Dev nD) (q : DmaSem sig) (hq : ∀ k, loc k ≠ .dma q) (O : CellTallies nD τ sig ℕ) (hO : O = O₀ c ∨ O = 0) :
    (levAts L lv : sProp 𝕄) ⊢ MayWait (c : Thread nD τ) (.dma q) 0 O := by
  refine Pipeline.mayWait_of_levAts (mem_L c _ (by decide)) fun g i h => ?_
  rcases hO with rfl | rfl
  · obtain ⟨x, hx, rfl, rfl⟩ := TalkSites.tallyL_pos h
    obtain ⟨e, he, rfl⟩ := List.mem_map.mp hx
    obtain ⟨h1, h2⟩ := pays_level c e he
    refine ⟨mem_L e.1 _ h1, ?_⟩
    rw [lv_other c _ hq]
    show 0 < lv (cell e.1 e.2.1) e.2.2.1
    rw [lv_cell]
    exact h2
  · exact absurd h (Nat.lt_irrefl 0)

theorem waits (c : Dev nD) : (levAts L lv : sProp 𝕄) ⊢ Pipeline.cellsWaits cfgs (dats m ρ) 0 0 c :=
  Pipeline.cellsWaits_intro cfgs (dats m ρ) 0 0 c fun w s t =>
    mayWait_stage c _ (by fin_cases w <;> fin_cases s <;> decide +kernel) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ## The run -/

/-- The contents of a window's array at the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters, every fair execution of the eight devices ends, with every counter at zero and
    each window's array at `finalA`. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingProof
-- ==== Proof.Final.lean ====
/-
# The arrays at the end

Each argument as it was, and each device's result array at the contents the body leaves in its staging buffer.
-/
module

public import proofs.«01_k».proof.Proof.Run

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat)

variable {F : FTy → Type} [FloatOps F]

local notation "𝕄" => MT nD τ sig ℕ (Elt F) ℕ UU ℕ

variable (m : (ℓ : Loc nD τ sig) → Buf (Elt F) ℓ)
variable (ρ : Dev nD → PrngReg)

theorem finalA_0 (c : Dev nD) : finalA m ρ c (0 : Fin 5) = m ((c : Thread nD τ).loc main_arg0) := (dats m ρ 0 c).arrAt_in (0 : Fin 5) rfl _
theorem finalA_1 (c : Dev nD) : finalA m ρ c (1 : Fin 5) = m ((c : Thread nD τ).loc main_arg1) := (dats m ρ 0 c).arrAt_in (1 : Fin 5) rfl _
theorem finalA_2 (c : Dev nD) : finalA m ρ c (2 : Fin 5) = m ((c : Thread nD τ).loc main_arg2) := (dats m ρ 0 c).arrAt_in (2 : Fin 5) rfl _
theorem finalA_3 (c : Dev nD) : finalA m ρ c (3 : Fin 5) = m ((c : Thread nD τ).loc main_arg3) := (dats m ρ 0 c).arrAt_in (3 : Fin 5) rfl _

/-- After the run a device's four arguments are as they were. -/
theorem args_kept {r : PUnit × MemSt nD τ sig (Elt F)} (h : QC m ρ r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c (0 : Fin 5)).trans (finalA_0 m ρ c), (h c (1 : Fin 5)).trans (finalA_1 m ρ c), (h c (2 : Fin 5)).trans (finalA_2 m ρ c), (h c (3 : Fin 5)).trans (finalA_3 m ρ c)⟩

/-! ## The staged blocks are whole arrays -/

theorem xstg_whole (c : Dev nD) : xstg m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem wstg_whole (c : Dev nD) : wstg m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
theorem astg_whole (c : Dev nD) : astg m c = m ((c : Thread nD τ).loc main_arg2) :=
  Memref.read_access_unit_zero (Elt F) main_arg2 (off := fun a => (win0_2.index (0 : Fin 1)) a * main_arg2.ty.shape.size a)
    (funext fun a => by fin_cases a <;> decide) (fun a => by fin_cases a <;> decide) _
theorem bstg_whole (c : Dev nD) : bstg m c = m ((c : Thread nD τ).loc main_arg3) :=
  Memref.read_access_unit_zero (Elt F) main_arg3 (off := fun a => (win0_3.index (0 : Fin 1)) a * main_arg3.ty.shape.size a)
    (funext fun a => by fin_cases a <;> decide) (fun a => by fin_cases a <;> decide) _

/-- The result array ends at what the body leaves. -/
theorem finalA_4 (c : Dev nD) : finalA m ρ c (4 : Fin 5) = outAt m c := by
  have h : (win0_4.blk (0 : Fin 1)).view.read (Elt F) (finalA m ρ c (4 : Fin 5)) = outAt m c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (Memref.read_access_unit_zero (Elt F) main_v1 (off := fun a => (win0_4.index (0 : Fin 1)) a * main_v1.ty.shape.size a)
    (funext fun a => by fin_cases a <;> decide) (fun a => by fin_cases a <;> decide) _).symm.trans h

/-- After the run a device's result is what the body leaves. -/
theorem result_is {r : PUnit × MemSt nD τ sig (Elt F)} (h : QC m ρ r) (c : Dev nD) :
    r.2.mem ((c : Thread nD τ).loc main_v1) = outAt m c := (h c (4 : Fin 5)).trans (finalA_4 m ρ c)

end Cert.RingProof
-- ==== Proof.Value.lean ====
/-
# The values of the payloads over the extended reals

Each store of the body adds to a half of the result the products of two gathered blocks of x with two landed halves of
weights; here each is read at an index, and the result as a whole as a sum over the devices.
-/
module

public import proofs.«01_k».proof.Proof.Launch
public import Idealize.ShloMosaic.Lib.Pointwise
public import Idealize.ShloMosaic.Lib.Layout
public import Idealize.ShloMosaic.Lib.ValueLayout

@[expose] public section

set_option maxRecDepth 16384

noncomputable section

namespace Cert.RingProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open scoped BigOperators

/-- An integer word as an extended real. -/
def num (b : BitVec 8) : EReal := ((b.toInt : ℝ) : EReal)

theorem sitofp_num (φ : FTy) (b : BitVec 8) : FloatOps.sitofp (F := Ideal) φ b = num b := rfl

/-- The entry at (r, l) of the product of a block of x with a block of weights. -/
def dot {N : ℕ} (X : S512x512.Idx → BitVec 8) (W : (⟨2, ![512, N]⟩ : Shape).Idx → BitVec 8) (r : Fin 512) (l : Fin N) : EReal :=
  ∑ k : Fin 512, num (X (ix2 r k)) * num (W (ix2 k l))

/-- A block viewed under a leading unit axis, at an index. -/
theorem slab_at {a b : ℕ} (h : (⟨3, ![1, a, b]⟩ : Shape).Squeezes ⟨2, ![a, b]⟩) (X : (⟨2, ![a, b]⟩ : Shape).Idx → Elt Ideal .i8) (r : Fin a) (l : Fin b) :
    slab h X (ix3 0 r l) = X (ix2 r l) := by
  exact congrArg X ((congrArg (Shape.reshapeEquiv h.numel_eq.symm) (ValueIdx.reshapeEquiv_ix2_1ab h.numel_eq r l).symm).trans
    ((Shape.reshapeEquiv_reshapeEquiv _ _ _).trans (Shape.reshapeEquiv_self _ _)))

/-- A store adds to a half of the result the products of two blocks of x with two halves of weights. -/
theorem pair_add (X Y : S512x512.Idx → Elt Ideal .i8) (V W : S512x4096.Idx → Elt Ideal .i8) (A : S512x4096.Idx → Elt Ideal .f32) (r : Fin 512) (l : Fin 4096) :
    k0_pay4 (F := Ideal) (slab squeezes_S1x512x512_S512x512 X) (slab squeezes_S1x512x512_S512x512 Y)
      (slab squeezes_S1x512x4096_S512x4096 V) (slab squeezes_S1x512x4096_S512x4096 W) A (ix2 r l)
      = (A (ix2 r l) : EReal) + (dot X V r l + dot Y W r l) := by
  have hx := slab_at squeezes_S1x512x512_S512x512
  have hw := slab_at squeezes_S1x512x4096_S512x4096
  pointwise [k0_pay4, dot, sitofp_num, hx, hw]

theorem own_value (X : S512x512.Idx → Elt Ideal .i8) (W : S512x8192.Idx → Elt Ideal .i8) (r : Fin 512) (l : Fin 8192) :
    k0_pay1 (F := Ideal) X W (ix2 r l) = dot X W r l := by
  pointwise [k0_pay1, dot, sitofp_num]

theorem last_value (a b : EReal) (X : S512x512.Idx → Elt Ideal .i8) (W : S512x4096.Idx → Elt Ideal .i8) (A : S512x4096.Idx → Elt Ideal .f32) (r : Fin 512) (l : Fin 4096) :
    k0_pay14 (F := Ideal) a b A (slab squeezes_S1x512x512_S512x512 X) (slab squeezes_S1x512x4096_S512x4096 W) (ix2 r l)
      = (a * b) * ((A (ix2 r l) : EReal) + dot X W r l) := by
  have hx := slab_at squeezes_S1x512x512_S512x512
  have hw := slab_at squeezes_S1x512x4096_S512x4096
  pointwise [k0_pay14, k0_pay13, dot, sitofp_num, hx, hw]

theorem pay3_eq {F : FTy → Type} [FloatOps F] (a b v w A) : k0_pay3 (F := F) (k0_pay2 a) b v w A = k0_pay4 a b v w A := rfl
theorem pay7_eq {F : FTy → Type} [FloatOps F] (a b v w A) : k0_pay7 (F := F) (k0_pay5 a b) (k0_pay6 v) w A = k0_pay4 a b v w A := rfl
theorem pay8_eq {F : FTy → Type} [FloatOps F] (a b v w A) : k0_pay8 (F := F) a b v w A = k0_pay4 a b v w A := rfl
theorem pay11_eq {F : FTy → Type} [FloatOps F] (a b v w A) : k0_pay11 (F := F) (k0_pay9 a b) (k0_pay10 v) w A = k0_pay4 a b v w A := rfl
theorem pay12_eq {F : FTy → Type} [FloatOps F] (a b v w A) : k0_pay12 (F := F) a b v w A = k0_pay4 a b v w A := rfl
theorem pay18_eq {F : FTy → Type} [FloatOps F] (a b A x w) : k0_pay18 (F := F) (k0_pay13 a b) (k0_pay15 A) (k0_pay16 x) (k0_pay17 w) = k0_pay14 a b A x w := rfl

/-! ## The blocks at an index -/

variable (m : (ℓ : Loc nD τ sig) → Buf (Elt Ideal) ℓ)

/-- A column of direction d's half, among all the columns. -/
def col (d : Bool) (l : Fin 4096) : Fin 8192 := ⟨col0 d + l.val, by have := l.isLt; cases d <;> simp only [col0] <;> omega⟩
/-- A row of device c's block, among all the rows. -/
def row (c : Dev nD) (r : Fin 512) : Fin 4096 := ⟨512 * c.val + r.val, by have := r.isLt; have : c.val < 8 := c.isLt; omega⟩

theorem cut_at {α : Type} (d : Bool) (X : S512x8192.Idx → α) (r : Fin 512) (l : Fin 4096) : cut d X (ix2 r l) = X (ix2 r (col d l)) := by
  refine congrArg X (funext fun a => Fin.ext ?_)
  match a with
  | ⟨0, _⟩ => show 0 + 1 * r.val = r.val; omega
  | ⟨1, _⟩ => show col0 d + 1 * l.val = col0 d + l.val; omega
theorem wpart_at (c : Dev nD) (d : Bool) (k : Fin 512) (l : Fin 4096) : wpart m c d (ix2 k l) = wstg m c (ix2 k (col d l)) := cut_at d (wstg m c) k l
theorem xpart_at (c t : Dev nD) (r k : Fin 512) : xpart m c t (ix2 r k) = xstg m c (ix2 (row t r) k) := by
  refine congrArg (xstg m c) (funext fun a => Fin.ext ?_)
  match a with
  | ⟨0, _⟩ => show 512 * t.val + 1 * r.val = 512 * t.val + r.val; omega
  | ⟨1, _⟩ => show 0 + 1 * k.val = k.val; omega

/-! ## The result as a sum over the devices -/

/-- What device p's columns of x and rows of weights contribute to an entry of device c's result. -/
def part (c p : Dev nD) (r : Fin 512) (L : Fin 8192) : EReal :=
  ∑ k : Fin 512, num (xstg m p (ix2 (row c r) k)) * num (wstg m p (ix2 k L))

theorem dot_part (c p : Dev nD) (d : Bool) (r : Fin 512) (l : Fin 4096) : dot (xpart m p c) (wpart m p d) r l = part m c p r (col d l) :=
  Finset.sum_congr rfl fun k _ => by rw [xpart_at, wpart_at]
theorem own_part (c : Dev nD) (d : Bool) (r : Fin 512) (l : Fin 4096) : cut d (acc0 m c) (ix2 r l) = part m c c r (col d l) := by
  rw [cut_at]
  refine (own_value _ _ r (col d l)).trans (Finset.sum_congr rfl fun k _ => ?_)
  rw [xpart_at]

theorem step_part (c : Dev nD) (d : Bool) (p q : Dev nD) (A : S512x4096.Idx → Elt Ideal .f32) (r : Fin 512) (l : Fin 4096) :
    k0_pay4 (F := Ideal) (slab squeezes_S1x512x512_S512x512 (xpart m p c)) (slab squeezes_S1x512x512_S512x512 (xpart m q c))
      (slab squeezes_S1x512x4096_S512x4096 (wpart m p d)) (slab squeezes_S1x512x4096_S512x4096 (wpart m q d)) A (ix2 r l)
      = (A (ix2 r l) : EReal) + (part m c p r (col d l) + part m c q r (col d l)) := by
  rw [pair_add, dot_part, dot_part]
theorem last_part (c : Dev nD) (d : Bool) (p : Dev nD) (a b : EReal) (A : S512x4096.Idx → Elt Ideal .f32) (r : Fin 512) (l : Fin 4096) :
    k0_pay14 (F := Ideal) a b A (slab squeezes_S1x512x512_S512x512 (xpart m p c)) (slab squeezes_S1x512x4096_S512x4096 (wpart m p d)) (ix2 r l)
      = (a * b) * ((A (ix2 r l) : EReal) + part m c p r (col d l)) := by
  rw [last_value, dot_part]

/-- A sum over the devices is the sum over the places from device c on. -/
theorem sum_from (c : Dev nD) (f : Dev nD → EReal) :
    ∑ p : Dev nD, f p = f c + f (sh 1 c) + f (sh 2 c) + f (sh 3 c) + f (sh 4 c) + f (sh 5 c) + f (sh 6 c) + f (sh 7 c) := by
  have h : Function.Bijective (fun j : Fin 8 => sh j.val c) := by revert c; decide +kernel
  have h0 : sh 0 c = c := by revert c; decide +kernel
  refine ((h.sum_comp f).symm.trans (Fin.sum_univ_eight _)).trans ?_
  show f (sh 0 c) + _ + _ + _ + _ + _ + _ + _ = _
  rw [h0]; rfl

/-- The four steps of a half bring together the parts of all devices. -/
theorem acc4_value (c : Dev nD) (a b : EReal) (d : Bool) (r : Fin 512) (l : Fin 4096) :
    acc4 m a b c d (ix2 r l) = (a * b) * ∑ p : Dev nD, part m c p r (col d l) := by
  have hs := sum_from c fun p => part m c p r (col d l)
  have ho := own_part m c d r l
  cases d
  · have e1 : acc1 m c false (ix2 r l) = _ := step_part m c false (sh 1 c) (sh 2 c) (cut false (acc0 m c)) r l
    have e2 : acc2 m c false (ix2 r l) = _ := step_part m c false (sh 3 c) (sh 4 c) (acc1 m c false) r l
    have e3 : acc3 m c false (ix2 r l) = _ := step_part m c false (sh 5 c) (sh 6 c) (acc2 m c false) r l
    have e4 : acc4 m a b c false (ix2 r l) = _ := last_part m c false (sh 7 c) a b (acc3 m c false) r l
    rw [e4, e3, e2, e1, ho, hs]
    exact congrArg (a * b * ·) (by ac_rfl)
  · have e1 : acc1 m c true (ix2 r l) = _ := step_part m c true (sh 7 c) (sh 6 c) (cut true (acc0 m c)) r l
    have e2 : acc2 m c true (ix2 r l) = _ := step_part m c true (sh 5 c) (sh 4 c) (acc1 m c true) r l
    have e3 : acc3 m c true (ix2 r l) = _ := step_part m c true (sh 3 c) (sh 2 c) (acc2 m c true) r l
    have e4 : acc4 m a b c true (ix2 r l) = _ := last_part m c true (sh 1 c) a b (acc3 m c true) r l
    rw [e4, e3, e2, e1, ho, hs]
    exact congrArg (a * b * ·) (by ac_rfl)

/-- An entry of the result of device c: the scales times the sum over all devices. -/
theorem outAt_value (c : Dev nD) (r : Fin 512) (L : Fin 8192) :
    outAt m c (ix2 r L) = ((sca m c : EReal) * (scb m c : EReal)) * ∑ p : Dev nD, part m c p r L := by
  obtain ⟨d, l, rfl⟩ : ∃ d l, L = col d l := by
    by_cases h : L.val < 4096
    · exact ⟨true, ⟨L.val, h⟩, Fin.ext (by simp only [col, col0]; omega)⟩
    · exact ⟨false, ⟨L.val - 4096, by have := L.isLt; omega⟩, Fin.ext (by simp only [col, col0]; omega)⟩
  have h := cut_at d (outAt m c) r l
  unfold outAt at h ⊢
  rw [← h, cut_glue]
  exact acc4_value m c _ _ d r l

end Cert.RingProof
-- ==== Proof.Equation.lean ====
/-
# The kernel's result is the reference's

Entry (R, L) of the reference is the sum over all 4096 columns of x, times the product of the scales. The columns fall into
the eight blocks of the devices, and each block's sum is what that device contributes.
-/
module

public import proofs.«01_k».proof.Proof.Value
public import proofs.«01_k».proof.Proof.Final
public import proofs.«01_k».proof.Proof.Gen.ReferenceIdeal.Run

@[expose] public section

set_option maxRecDepth 16384

noncomputable section

namespace Cert.RingProof

open Idealize.ShloMosaic Idealize.ShloMosaic.TcCoe Idealize.SL.Sem
open scoped BigOperators

/-! ## The reference at an index -/

section Ref
open Cert.ReferenceIdeal Cert.ReferenceIdeal.Gen

/-- The reference's result as a function of its arguments. -/
def refVal (X : IVec S4096x4096 8) (W : IVec S4096x8192 8) (a b : FVec Ideal S1 .f32) : FVec Ideal S4096x8192 .f32 :=
  mulf (Host.dotGeneral (F := Ideal) dot_S4096x4096_S4096x8192_S4096x8192_1_0_0_1_n_n none (sitofp .f32 (extsi 32 X natLt_8_32)) (sitofp .f32 (extsi 32 W natLt_8_32)))
    (broadcastInDim S4096x8192 ![0, 1] bcast_S1x1_S4096x8192_0_1 (broadcastInDim S1x1 ![1] bcast_S1_S1x1_1 (mulf a b)))

/-- A word widened to 32 bits is the same integer. -/
theorem wide_num (φ : FTy) (b : BitVec 8) : FloatOps.sitofp (F := Ideal) φ (b.signExtend 32) = num b := by
  show (((b.signExtend 32).toInt : ℝ) : EReal) = ((b.toInt : ℝ) : EReal)
  rw [BitVec.toInt_signExtend_of_le (by decide)]

theorem refVal_at (X : IVec S4096x4096 8) (W : IVec S4096x8192 8) (a b : FVec Ideal S1 .f32) (R : Fin 4096) (L : Fin 8192) :
    refVal X W a b (ix2 R L) = (∑ k : Fin 4096, num (X (ix2 R k)) * num (W (ix2 k L))) * (a (ix1 0) * b (ix1 0)) := by
  pointwise [refVal, wide_num]
end Ref

/-! ## The kernel's blocks of it -/

section Kernel
open Cert.KernelIdeal Cert.KernelIdeal.Gen

variable (m : (ℓ : Loc nD τ sig) → Buf (Elt Ideal) ℓ)
variable (X : IVec ⟨2, ![4096, 4096]⟩ 8) (W : IVec ⟨2, ![4096, 8192]⟩ 8) (a b : FVec Ideal S1 .f32)

/-- A position of the contraction: column k of device p's columns. -/
def pos (p : Dev nD) (k : Fin 512) : Fin 4096 := ⟨p.val * 512 + k.val, by have := k.isLt; have : p.val < 8 := p.isLt; omega⟩

theorem xblock_at (p : Dev nD) (R : Fin 4096) (k : Fin 512) :
    Layout.block ⟨2, ![4096, 512]⟩ ⟨2, ![4096, 4096]⟩ 1 8 p X (by decide) (ix2 R k) = X (ix2 R (pos p k)) := by
  refine congrArg X (funext fun a => Fin.ext ?_)
  match a with
  | ⟨0, _⟩ => rfl
  | ⟨1, _⟩ => rfl
theorem wblock_at {α : Type} (Y : (⟨2, ![4096, 8192]⟩ : Shape).Idx → α) (p : Dev nD) (k : Fin 512) (L : Fin 8192) :
    Layout.block ⟨2, ![512, 8192]⟩ ⟨2, ![4096, 8192]⟩ 0 8 p Y (by decide) (ix2 k L) = Y (ix2 (pos p k) L) := by
  refine congrArg Y (funext fun a => Fin.ext ?_)
  match a with
  | ⟨0, _⟩ => rfl
  | ⟨1, _⟩ => rfl

/-- If every device starts with its blocks of X and W and with the scales, then it ends with its block of the reference's result. -/
theorem outAt_block
    (hx : ∀ p : Dev nD, m ((p : Thread nD τ).loc main_arg0) = Layout.block ⟨2, ![4096, 512]⟩ ⟨2, ![4096, 4096]⟩ 1 8 p X (by decide))
    (hw : ∀ p : Dev nD, m ((p : Thread nD τ).loc main_arg1) = Layout.block ⟨2, ![512, 8192]⟩ ⟨2, ![4096, 8192]⟩ 0 8 p W (by decide))
    (ha : ∀ p : Dev nD, m ((p : Thread nD τ).loc main_arg2) = a) (hb : ∀ p : Dev nD, m ((p : Thread nD τ).loc main_arg3) = b) (c : Dev nD) :
    outAt m c = Layout.block ⟨2, ![512, 8192]⟩ ⟨2, ![4096, 8192]⟩ 0 8 c (refVal X W a b) (by decide) := by
  funext i
  obtain ⟨r, L, rfl⟩ : ∃ (r : Fin 512) (L : Fin 8192), i = ix2 r L := ⟨i 0, i 1, eq_ix2 i⟩
  have hs : sca m c = a (ix1 0) := (congrFun ((astg_whole m c).trans (ha c)) e0).trans (congrArg a (one_elt (ix1 0)).symm)
  have ht : scb m c = b (ix1 0) := (congrFun ((bstg_whole m c).trans (hb c)) e0).trans (congrArg b (one_elt (ix1 0)).symm)
  rw [outAt_value, wblock_at, refVal_at, hs, ht, mul_comm]
  refine congrArg (· * _) ?_
  rw [Fin.sum_univ_tiles 8 512 rfl]
  refine Finset.sum_congr rfl fun p _ => Finset.sum_congr rfl fun k _ => ?_
  have e1 : xstg m p (ix2 (row c r) k) = X (ix2 (pos c r) (pos p k)) := by
    rw [xstg_whole, hx p, xblock_at]
    exact congrArg (fun R => X (ix2 R (pos p k))) (Fin.ext (by simp only [row, pos]; omega))
  have e2 : wstg m p (ix2 k L) = W (ix2 (pos p k) L) := by
    rw [wstg_whole, hw p, wblock_at]
  rw [e1, e2]
  rfl
end Kernel

end Cert.RingProof
-- ==== Proof.lean ====
/- The claims about the kernel and its reference: each program's runs end without fault, with the arguments kept and every
   semaphore at zero; the ideal program is the kernel; and kernel and reference have the same result over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Final
public import proofs.«01_k».proof.Proof.Equation
public import Idealize.ShloMosaic.Adequacy
public import Idealize.ShloMosaic.Init

@[expose] public section

noncomputable section

namespace Cert.Proof

open Idealize.ShloMosaic Idealize.SL.Sem Cert.Kernel

/-- `Cert.quiescent_Kernel`: the run of the kernel at machine floats, whose text is the idealization's. -/
theorem frame_kernel : Cert.quiescent_Kernel := fun m ρ _ =>
  (congr (congrArg (fun d p => θ_run d (onTc p) ⟨m, fun _ => 0, ρ⟩ _) Cert.RingProof.same_defs) Cert.RingProof.same_main).mpr
    ((θ_run Cert.KernelIdeal.defs _ _).mono (fun _ h => ⟨fun c => Cert.RingProof.args_kept m ρ h.1 c, h.2⟩) (Cert.RingProof.run_main (F := Bits) m ρ))

/-- `Cert.quiescent_KernelIdeal`: the same run at exact reals. -/
theorem frame_kernelIdeal : Cert.quiescent_KernelIdeal := fun m ρ _ =>
  (θ_run Cert.KernelIdeal.defs _ _).mono (fun _ h => ⟨fun c => Cert.RingProof.args_kept m ρ h.1 c, h.2⟩) (Cert.RingProof.run_main (F := Ideal) m ρ)

/-- `Cert.quiescent_ReferenceIdeal`: a host program without semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal`: each device ends with its block of the reference's result. -/
theorem algebraic_result : Cert.algebraic_KernelIdeal_ReferenceIdeal := fun m ρ m' ρ' _ h =>
  ⟨_, (θ_run Cert.KernelIdeal.defs _ _).mono
      (fun _ hr c => ⟨(Cert.RingProof.result_is m ρ hr.1 c).trans
        (Cert.RingProof.outAt_block m _ _ _ _ (fun p => (h p).1) (fun p => (h p).2.1) (fun p => (h p).2.2.1) (fun p => (h p).2.2.2) c),
        Cert.RingProof.args_kept m ρ hr.1 c⟩)
      (Cert.RingProof.run_main (F := Ideal) m ρ),
    (θ_run Cert.ReferenceIdeal.defs _ _).mono (fun _ hr => hr 0) (Cert.ReferenceIdeal.Value.run (F := Ideal) m' ρ')⟩

/-- Everything that is claimed. -/
theorem claim : Cert.Claim := ⟨Cert.Kernel.Gen.facts, Cert.KernelIdeal.Gen.facts, Cert.ReferenceIdeal.Gen.facts,
  frame_kernel, frame_kernelIdeal, frame_reference, trivial, algebraic_result⟩

end Cert.Proof

end
